-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S131072x8 : Shape := ⟨2, ![131072, 8]⟩
abbrev S8x1024x128 : Shape := ⟨3, ![8, 1024, 128]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel

variable [Facts]

def fn {F : FTy → Type} [FloatOps F] (main_arg0 : IVec S131072x8 32) (main_arg1 : FVec F S8x1024x128 .f32) : IVec S_ 1 :=
  let main_c : IVec S_ 32 := constantI S_ 32 0#32
  let main_v0 : IVec S131072x8 32 := broadcastInDim S131072x8 ![] bcast_S_S131072x8 main_c
  let main_v1 : IVec S131072x8 1 := cmpi .sge main_arg0 main_v0
  let main_c_0 : IVec S_ 32 := constantI S_ 32 1024#32
  let main_v2 : IVec S131072x8 32 := broadcastInDim S131072x8 ![] bcast_S_S131072x8 main_c_0
  let main_v3 : IVec S131072x8 1 := cmpi .slt main_arg0 main_v2
  let main_v4 : IVec S131072x8 1 := andi main_v1 main_v3
  let main_c_1 : IVec S_ 1 := constantI S_ 1 1#1
  let main_v5 : IVec S_ 1 := (fun x v => Host.reduce IntOp.andi x v reducesTo_S131072x8_S_d0_1 h_S_) main_v4 main_c_1
  main_v5
-- ==== Kernel.lean ====
abbrev S131072x8 : Shape := ⟨2, ![131072, 8]⟩
abbrev S8x1024x128 : Shape := ⟨3, ![8, 1024, 128]⟩
abbrev S8192x128 : Shape := ⟨2, ![8192, 128]⟩
abbrev S1048576 : Shape := ⟨1, ![1048576]⟩
abbrev S131072x128 : Shape := ⟨2, ![131072, 128]⟩
abbrev S512 : Shape := ⟨1, ![512]⟩
abbrev S4x128 : Shape := ⟨2, ![4, 128]⟩
abbrev S512x128 : Shape := ⟨2, ![512, 128]⟩
abbrev S64x128 : Shape := ⟨2, ![64, 128]⟩
abbrev S_ : Shape := ⟨0, ![]⟩
abbrev S16 : Shape := ⟨1, ![16]⟩
abbrev S1x16 : Shape := ⟨2, ![1, 16]⟩
abbrev S128x128 : Shape := ⟨2, ![128, 128]⟩
abbrev S1x128 : Shape := ⟨2, ![1, 128]⟩
abbrev S128 : Shape := ⟨1, ![128]⟩

abbrev nBuf : Table → Nat
  | .hbm => 5
  | .local .scVector .vmem => 4
  | _ => 0

abbrev bufTy : (tb : Table) → Fin (nBuf tb) → BufTy
  | .hbm, ⟨0, _⟩ => ⟨S131072x8, .i32⟩
  | .hbm, ⟨1, _⟩ => ⟨S8x1024x128, .f32⟩
  | .hbm, ⟨2, _⟩ => ⟨S8192x128, .f32⟩
  | .hbm, ⟨3, _⟩ => ⟨S1048576, .i32⟩
  | .hbm, ⟨4, _⟩ => ⟨S131072x128, .f32⟩
  | .local .scVector .vmem, ⟨0, _⟩ => ⟨S512, .i32⟩
  | .local .scVector .vmem, ⟨1, _⟩ => ⟨S4x128, .i32⟩
  | .local .scVector .vmem, ⟨2, _⟩ => ⟨S512x128, .f32⟩
  | .local .scVector .vmem, ⟨3, _⟩ => ⟨S64x128, .f32⟩
  | _, _ => ⟨S131072x8, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_4 : BitVec 32 := 0#32
  let c64_i32 : BitVec 32 := 64#32
  let v21 : BitVec 32 := Scalar.addi c0_i32_4 c64_i32
  let c1_i32_5 : BitVec 32 := 1#32
  ⟨c0_i32_4, v21, c1_i32_5⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v23 : BitVec 32 := Scalar.muli v1 c4096_i32
  let c0_i32_4 : BitVec 32 := 0#32
  let c1_i32_5 : BitVec 32 := 1#32
  let arg10 : BitVec 32 := Scf.iv c0_i32_4 c1_i32_5 k0_t1
  let c64_i32_7 : BitVec 32 := 64#32
  let v24 : BitVec 32 := Scalar.muli arg10 c64_i32_7
  let v25 : BitVec 32 := Scalar.addi v23 v24
  let c8_i32_8 : BitVec 32 := 8#32
  let v26 : BitVec 32 := Scalar.muli v25 c8_i32_8
  ![v26.toNat]
@[reducible] def k0_t2_loop : Scf.Loop 32 :=
  let c0_i32_118 : BitVec 32 := 0#32
  let c64_i32_119 : BitVec 32 := 64#32
  let v283 : BitVec 32 := Scalar.addi c0_i32_118 c64_i32_119
  let c1_i32_120 : BitVec 32 := 1#32
  ⟨c0_i32_118, v283, c1_i32_120⟩
def k0_off2 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v286 : Index := Scalar.indexCast v285
  let c0_124 : Index := 0#32
  ![v286.toNat, 0]
def k0_off3 (k0_t2 : Fin k0_t2_loop.trips) (c1_i32_125 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v289 : BitVec 32 := Scalar.addi v285 c1_i32_125
  let v290 : Index := Scalar.indexCast v289
  let c0_126 : Index := 0#32
  ![v290.toNat, 0]
def k0_off4 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v324 : Index := Scalar.indexCast arg12
  let c0_135 : Index := 0#32
  ![v324.toNat, 0]
def k0_off5 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v328 : Index := Scalar.indexCast v285
  let c16_136 : Index := 16#32
  ![v328.toNat, 16]
def k0_off6 (k0_t2 : Fin k0_t2_loop.trips) (c1_i32_137 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v331 : BitVec 32 := Scalar.addi v285 c1_i32_137
  let v332 : Index := Scalar.indexCast v331
  let c16_138 : Index := 16#32
  ![v332.toNat, 16]
def k0_off7 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v366 : Index := Scalar.indexCast arg12
  let c16_151 : Index := 16#32
  ![v366.toNat, 16]
def k0_off8 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v370 : Index := Scalar.indexCast v285
  let c32_152 : Index := 32#32
  ![v370.toNat, 32]
def k0_off9 (k0_t2 : Fin k0_t2_loop.trips) (c1_i32_153 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v373 : BitVec 32 := Scalar.addi v285 c1_i32_153
  let v374 : Index := Scalar.indexCast v373
  let c32_154 : Index := 32#32
  ![v374.toNat, 32]
def k0_off10 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v408 : Index := Scalar.indexCast arg12
  let c32_167 : Index := 32#32
  ![v408.toNat, 32]
def k0_off11 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v412 : Index := Scalar.indexCast v285
  let c48_168 : Index := 48#32
  ![v412.toNat, 48]
def k0_off12 (k0_t2 : Fin k0_t2_loop.trips) (c1_i32_169 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v415 : BitVec 32 := Scalar.addi v285 c1_i32_169
  let v416 : Index := Scalar.indexCast v415
  let c48_170 : Index := 48#32
  ![v416.toNat, 48]
def k0_off13 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v450 : Index := Scalar.indexCast arg12
  let c48_183 : Index := 48#32
  ![v450.toNat, 48]
def k0_off14 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v454 : Index := Scalar.indexCast v285
  let c64_184 : Index := 64#32
  ![v454.toNat, 64]
def k0_off15 (k0_t2 : Fin k0_t2_loop.trips) (c1_i32_185 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v457 : BitVec 32 := Scalar.addi v285 c1_i32_185
  let v458 : Index := Scalar.indexCast v457
  let c64_186 : Index := 64#32
  ![v458.toNat, 64]
def k0_off16 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v492 : Index := Scalar.indexCast arg12
  let c64_199 : Index := 64#32
  ![v492.toNat, 64]
def k0_off17 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v496 : Index := Scalar.indexCast v285
  let c80_200 : Index := 80#32
  ![v496.toNat, 80]
def k0_off18 (k0_t2 : Fin k0_t2_loop.trips) (c1_i32_201 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v499 : BitVec 32 := Scalar.addi v285 c1_i32_201
  let v500 : Index := Scalar.indexCast v499
  let c80_202 : Index := 80#32
  ![v500.toNat, 80]
def k0_off19 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v534 : Index := Scalar.indexCast arg12
  let c80_215 : Index := 80#32
  ![v534.toNat, 80]
def k0_off20 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v538 : Index := Scalar.indexCast v285
  let c96_216 : Index := 96#32
  ![v538.toNat, 96]
def k0_off21 (k0_t2 : Fin k0_t2_loop.trips) (c1_i32_217 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v541 : BitVec 32 := Scalar.addi v285 c1_i32_217
  let v542 : Index := Scalar.indexCast v541
  let c96_218 : Index := 96#32
  ![v542.toNat, 96]
def k0_off22 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v576 : Index := Scalar.indexCast arg12
  let c96_231 : Index := 96#32
  ![v576.toNat, 96]
def k0_off23 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v580 : Index := Scalar.indexCast v285
  let c112_232 : Index := 112#32
  ![v580.toNat, 112]
def k0_off24 (k0_t2 : Fin k0_t2_loop.trips) (c1_i32_233 : BitVec 32) : Fin 2 → Nat :=
  let c0_i32_118 : BitVec 32 := 0#32
  let c1_i32_120 : BitVec 32 := 1#32
  let arg12 : BitVec 32 := Scf.iv c0_i32_118 c1_i32_120 k0_t2
  let c8_i32_123 : BitVec 32 := 8#32
  let v285 : BitVec 32 := Scalar.muli arg12 c8_i32_123
  let v583 : BitVec 32 := Scalar.addi v285 c1_i32_233
  let v584 : Index := Scalar.indexCast v583
  let c112_234 : Index := 112#32
  ![v584.toNat, 112]
def k0_off25 (k0_t2 : Fin k0_t2_loop.trips) : Fin 2 → Nat :=
  let c0_i32_118 : BitVec 32 := 0#32
  let c1_i32_120 : BitVec 32 := 1#32
  let arg12 : BitVec 32 := Scf.iv c0_i32_118 c1_i32_120 k0_t2
  let v618 : Index := Scalar.indexCast arg12
  let c112_247 : Index := 112#32
  ![v618.toNat, 112]
def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v23 : BitVec 32 := Scalar.muli v1 c4096_i32
  let c0_i32_4 : BitVec 32 := 0#32
  let c1_i32_5 : BitVec 32 := 1#32
  let arg10 : BitVec 32 := Scf.iv c0_i32_4 c1_i32_5 k0_t1
  let c64_i32_7 : BitVec 32 := 64#32
  let v24 : BitVec 32 := Scalar.muli arg10 c64_i32_7
  let v25 : BitVec 32 := Scalar.addi v23 v24
  let c0_i32_123_r1 : BitVec 32 := 0#32
  ![v25.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x8 : Shape := ⟨2, ![131072, 8]⟩
abbrev S8x1024x128 : Shape := ⟨3, ![8, 1024, 128]⟩
abbrev S8x131072 : Shape := ⟨2, ![8, 131072]⟩
abbrev S_ : Shape := ⟨0, ![]⟩
abbrev S8x131072x1 : Shape := ⟨3, ![8, 131072, 1]⟩
abbrev S1 : Shape := ⟨1, ![1]⟩
abbrev S1x1x1 : Shape := ⟨3, ![1, 1, 1]⟩
abbrev S8x131072x128 : Shape := ⟨3, ![8, 131072, 128]⟩
abbrev S131072x128 : Shape := ⟨2, ![131072, 128]⟩

abbrev nBuf : Space → Nat
  | .hbm => 28
  | .vmem => 0
  | .smem => 0
  | _ => 0

abbrev bufTy : (tb : Table) → Fin (tcTables nBuf tb) → BufTy
  | .hbm, ⟨0, _⟩ => ⟨S131072x8, .i32⟩
  | .hbm, ⟨1, _⟩ => ⟨S8x1024x128, .f32⟩
  | .hbm, ⟨2, _⟩ => ⟨S8x131072, .i32⟩
  | .hbm, ⟨3, _⟩ => ⟨S_, .i32⟩
  | .hbm, ⟨4, _⟩ => ⟨S8x131072, .i32⟩
  | .hbm, ⟨5, _⟩ => ⟨S8x131072, .i1⟩
  | .hbm, ⟨6, _⟩ => ⟨S_, .i32⟩
  | .hbm, ⟨7, _⟩ => ⟨S8x131072, .i32⟩
  | .hbm, ⟨8, _⟩ => ⟨S8x131072, .i32⟩
  | .hbm, ⟨9, _⟩ => ⟨S8x131072, .i32⟩
  | .hbm, ⟨10, _⟩ => ⟨S8x131072x1, .i32⟩
  | .hbm, ⟨11, _⟩ => ⟨S1, .i32⟩
  | .hbm, ⟨12, _⟩ => ⟨S_, .i32⟩
  | .hbm, ⟨13, _⟩ => ⟨S8x131072x1, .i32⟩
  | .hbm, ⟨14, _⟩ => ⟨S8x131072x1, .i1⟩
  | .hbm, ⟨15, _⟩ => ⟨S1x1x1, .i32⟩
  | .hbm, ⟨16, _⟩ => ⟨S8x131072x1, .i32⟩
  | .hbm, ⟨17, _⟩ => ⟨S8x131072x1, .i1⟩
  | .hbm, ⟨18, _⟩ => ⟨S8x131072x1, .i1⟩
  | .hbm, ⟨19, _⟩ => ⟨S_, .i1⟩
  | .hbm, ⟨20, _⟩ => ⟨S8x131072, .i1⟩
  | .hbm, ⟨21, _⟩ => ⟨S8x131072x128, .f32⟩
  | .hbm, ⟨22, _⟩ => ⟨S8x131072x128, .i1⟩
  | .hbm, ⟨23, _⟩ => ⟨S_, .f32⟩
  | .hbm, ⟨24, _⟩ => ⟨S8x131072x128, .f32⟩
  | .hbm, ⟨25, _⟩ => ⟨S8x131072x128, .f32⟩
  | .hbm, ⟨26, _⟩ => ⟨S_, .f32⟩
  | .hbm, ⟨27, _⟩ => ⟨S131072x128, .f32⟩
  | _, _ => ⟨S131072x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Streams.lean ====
module

public import Idealize.ShloMosaic.Lib.Batch
public import Idealize.ShloMosaic.Lib.Memref
public import Idealize.ShloMosaic.Lib.SparseCore.Stream

/-! One indirect gather of several outstanding on one DMA semaphore.

A tile starts several gathers one after the other on the same semaphore, and only then waits as often. The engine may
serve their rows in any order, so no wait but the last knows which rows have landed. All the gathers are therefore one
batch of row transfers of one size: every row of the first gather, then every row of the second, and so on. -/

@[expose] public section

noncomputable section

namespace Cert.Streams

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore (enqueueIndirectGather enqueueIndirectGather_bind waitIndirectGather gatherPayload gatherRow rowOf rowOf_of_lt rowShape_numel_pos)
open Idealize.ShloMosaic.Transfers (Batch pending)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section Tokens

variable {n : ℕ}

omit [Preorder Lvl] in
/-- The transfers from the `k`-th on are the next `m`, numbered from zero, and those from the `k + m`-th on. -/
theorem pending_add (Φ : Fin n → sProp 𝕄) (k : ℕ) : ∀ (m : ℕ) (h : k + m ≤ n),
    bigSep (pending k) Φ ⊢ iprop(bigSep Finset.univ (fun j : Fin m => Φ ⟨k + j.val, by omega⟩) ∗ bigSep (pending (k + m)) Φ)
  | 0, _ => by
    iintro H
    isplitr
    · rw [Finset.univ_eq_empty, BI.bigSep_empty]; iempintro
    · iexact H
  | m + 1, h => by
    iintro H
    ihave H := pending_add Φ k m (by omega) $$ H
    icases H with ⟨H1, H2⟩
    ihave H2 := (Entails.of_eq (Transfers.bigSep_pending_step Φ (k + m) (by omega))) $$ H2
    icases H2 with ⟨H3, H4⟩
    have hlast : iprop(Φ ⟨k + m, by omega⟩ ∗ bigSep Finset.univ (fun j : Fin m => Φ ⟨k + j.val, by omega⟩))
        ⊢ bigSep Finset.univ (fun j : Fin (m + 1) => Φ ⟨k + j.val, by omega⟩) := by
      rw [Fin.univ_castSuccEmb, Finset.cons_eq_insert, BI.bigSep_insert (by simp), BI.bigSep_map]
      exact .rfl
    isplitr [H4]
    · iapply hlast
      isplitl [H3]; · iexact H3
      iexact H1
    · iexact H4

end Tokens

section Gather

/-- The word's place in the offset list that names the row landing at row `j` of the destination. -/
def entry {o : ℕ} (hn : si.numel = o) (j : Fin o) : si.Idx := si.rowMajor.symm (j.cast hn.symm)

/-- What one row of a gather gives back when it has landed: its row of the destination written, its word of the offset
    list, and its share of the source. -/
def rowPaid (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (SparseCore.rows (offs.view.read (Elt F) fo) hn hin j) i)) Finset.univ))
      ∗ (offs.view.loc c ↦[{offs.view.emb (entry hn j)}]{qo} fo))
    ∗ (src.view.loc c ↦[src.view.set]{pieceOf q _ ho j} fs))

instance rowPaid_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowPaid c src dst hg offs hn ho q qo fs fd fo hin j) := by
  unfold rowPaid; infer_instance

omit [Preorder Lvl] in
/-- All the rows of a gather landed are the destination holding the gathered rows, the source's share and the list's. -/
theorem rowPaid_all {src : Memref sig c.2.kind sp s₀ e} {dst : Memref sig c.2.kind .vmem s e} {hg : s₀.Gathers a s}
    {offs : Memref sig c.2.kind .vmem si .i32} {hn : si.numel = s.size hg.axis'} {ho : 0 < s.size hg.axis'} {q qo : PosShare TreeShare}
    {fs : Buf (Elt F) (src.view.loc c)} {fd : Buf (Elt F) (dst.view.loc c)} {fo : Buf (Elt F) (offs.view.loc c)}
    {hin : ∀ x, (offs.view.read (Elt F) fo x).toNat < s₀.size hg.axis} :
    bigSep Finset.univ (rowPaid c src dst hg offs hn ho q qo fs fd fo hin)
      ⊢ (iprop(owns c dst fullShare (gatherPayload hg (src.view.read (Elt F) fs) (SparseCore.rows (offs.view.read (Elt F) fo) hn hin))
          ∗ owns c src q (src.view.read (Elt F) fs) ∗ owns c offs qo (offs.view.read (Elt F) fo)) : sProp 𝕄) := by
  have hen : Function.Bijective (entry (si := si) hn) := si.rowMajor.symm.bijective.comp (finCongr hn.symm).bijective
  unfold rowPaid
  iintro H
  ihave H := Transfers.bigSep_sep_out _ _ _ $$ H
  icases H with ⟨H, Hs⟩
  ihave H := Transfers.bigSep_sep_out _ _ _ $$ H
  icases H with ⟨Hd, Ho⟩
  isplitl [Hd]
  · have hw : bigSep Finset.univ (fun j : Fin (s.size hg.axis') => (dst.view.loc c ↦[(dst.view.slice (s.rowRect hg.axis' j)).set]{fullShare}
          ((dst.view.slice (s.rowRect hg.axis' j)).write (Elt F) fd
            (fun i => src.view.read (Elt F) fs (hg.rowIdx (SparseCore.rows (offs.view.read (Elt F) fo) hn hin j) i)) Finset.univ) : sProp 𝕄))
        ⊢ (dst.view.loc c ↦[dst.view.set]{fullShare} (dst.view.write (Elt F) fd
            (gatherPayload hg (src.view.read (Elt F) fs) (SparseCore.rows (offs.view.read (Elt F) fo) hn hin)) Finset.univ)) := pointsTo_rows_write (Ix := Ix) (Name := Name) (U := U) (Lvl := Lvl) c dst.view hg.axis' fd
      (fun j i => src.view.read (Elt F) fs (hg.rowIdx (SparseCore.rows (offs.view.read (Elt F) fo) hn hin j) i))
      (gatherPayload hg (src.view.read (Elt F) fs) (SparseCore.rows (offs.view.read (Elt F) fo) hn hin))
      (fun j i => by unfold gatherPayload; rw [Shape.Gathers.idx_rowRect_emb])
    ihave Hd := hw $$ Hd
    unfold owns
    iexists (dst.view.write (Elt F) fd (gatherPayload hg (src.view.read (Elt F) fs) (SparseCore.rows (offs.view.read (Elt F) fo) hn hin)) Finset.univ)
    isplitr
    · ipureintro; exact View.read_write_univ _ _
    · iexact Hd
  isplitl [Hs]
  · ihave Hs := (Entails.of_eq (pointsTo_piecesOf (src.view.set) fs ho q).symm) $$ Hs
    iapply owns_intro $$ Hs
  · ihave Ho := (Entails.of_eq (pointsTo_entries c offs.view (entry hn) hen qo fo).symm) $$ Ho
    iapply owns_intro $$ Ho

/-- A gather started into a batch of row transfers of `N` units each, as the batch's transfers from the `k`-th on:
    each of its rows, landed, is that transfer's delivery. -/
theorem wp_gatherInto [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} {i : ℕ} (hi : i + s.size hg.axis' ≤ n)
    (hD : ∀ j : Fin (s.size hg.axis'), rowPaid c src dst hg offs hn ho q qo fs fd fo hin j ⊢ D ⟨i + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D i 0)
      ⊢ iprop((Batch EC c (.dma sem) ι N D (i + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := SparseCore.rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective (entry (si := si) hn) := si.rowMajor.symm.bijective.comp (finCongr hn.symm).bijective
  have hsum : ∑ j, (rd j).dst.view.dmaCredit = s.size hg.axis' * N := by
    rw [Finset.sum_congr rfl (fun j _ => show (rd j).dst.view.dmaCredit = N from hN j), Finset.sum_const, Finset.card_univ, Fintype.card_fin, smul_eq_mul]
  unfold Batch
  iintro ⟨Hs, Hd, Ho, ⟨%γ, %γ₀, %κ, #Hinv, HI, H0, Hcred⟩⟩ Hk
  ihave HI := (pending_add _ i (s.size hg.axis') hi) $$ HI
  icases HI with ⟨Ht, HI⟩
  ihave Hd' := (Entails.of_eq (pointsTo_rows c dst.view hg.axis' fullShare fd)) $$ Hd
  ihave Ho' := (Entails.of_eq (pointsTo_entries c offs.view (entry hn) hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Ht]
  · have hrow : ∀ j : Fin (s.size hg.axis'), iprop(inv κ (Transfers.batchBody EC (c, SemLoc.dma sem) N D γ γ₀)
          ∗ ((((dst.view.loc c ↦[(dst.view.slice (s.rowRect hg.axis' j)).set]{fullShare} fd)
            ∗ (offs.view.loc c ↦[{offs.view.emb (entry hn j)}]{qo} fo))
          ∗ (src.view.loc c ↦[src.view.set]{pieceOf q _ ho j} fs)) ∗ count EC (γ ⟨i + j.val, by omega⟩) 0))
        ⊢ iprop(S.heldEntry qo fo j ∗ (S.heldEntry qo fo j -∗ rowRes c (rd j))) := fun j => by
      have hNj : (rd j).dst.view.amount (SemLoc.dma sem) = N := hN j
      iintro ⟨#Hinv, ⟨⟨Hr, He⟩, Hsq⟩, Hγj⟩
      isplitl [He]; · iexact He
      iintro He
      unfold rowRes
      rw [hNj]
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ))
        ∗ (offs.view.loc c ↦[{offs.view.emb (entry hn j)}]{qo} fo))
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · iapply (Transfers.batch_creditUpdate EC ⟨i + j.val, by omega⟩ (hD j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Ht]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (i + s.size hg.axis') * N - 0 = (i * N - 0) + s.size hg.axis' * N by rw [Nat.add_mul]; omega, ← tallyAt_add]
    icombine Hcred Hcred' as H
    iexact H

end Gather

end Cert.Streams
-- ==== Proof.Access.lean ====
module

public import proofs.«01_k».proof.Proof.Streams

/-! Loads, stores, copies and several gathers, by what the memrefs they go through hold.

Each rule is stated over `owns`: the memref and its contents as an array over the memref's own shape, whatever buffer
lies under it. -/

@[expose] public section

noncomputable section

namespace Cert.Access

open Idealize.ShloMosaic
open Idealize.SL
open Idealize.SL.BI (sProp Storable bigSep bigSep_univ_equiv bigSep_univ_sum)
open scoped Idealize.SL.BI
open Idealize.SL.BI.BIBase Idealize.SL.BI.Laws Idealize.SL.Sem Idealize.SL.ProofMode
open Idealize.SL.RA
open Idealize.ShloMosaic.SparseCore (enqueueIndirectGather waitIndirectGather gatherPayload)
open Idealize.ShloMosaic.Transfers (Batch Flight MayWaits)
open Cert.Streams

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {s : Shape} {e : EltTy} {α : Type} {Q : α → sProp (MT nD τ sig Ix (Elt F) Name U Lvl)}

local notation "𝕄" => MT nD τ sig Ix (Elt F) Name U Lvl

/-! ## Owning a memref -/

section Owning

variable {sp : Space} (m : Memref sig c.2.kind sp s e)

/-- Owning a memref at what it reads of some contents of its buffer, taken apart. -/
theorem owns_out (q : PosShare TreeShare) (X : s.Idx → Elt F e) :
    (owns c m q X : sProp 𝕄) ⊢ iprop(∃ f, ⌜m.view.read (Elt F) f = X⌝ ∗ (m.view.loc c ↦[m.view.set]{q} f)) := .rfl

/-- Owning a memref at what it reads of some contents of its buffer is owning its elements at those contents. -/
theorem owns_read (q : PosShare TreeShare) (f : m.view.ty.Contents (Elt F)) :
    (owns c m q (m.view.read (Elt F) f) : sProp 𝕄) = (m.view.loc c ↦[m.view.set]{q} f) := by
  refine BI.equiv_iff.mp ⟨?_, owns_intro c m q f⟩
  change (owns c m q (m.view.read (Elt F) f) : sProp 𝕄) ⊢ (m.view.loc c ↦[m.view.set]{q} f)
  iintro H
  ihave H := (owns_out c m q _) $$ H
  icases H with ⟨%f', %hf, H⟩
  have hff : ∀ i ∈ m.view.set, f' i = f i := by
    intro i hi
    obtain ⟨j, -, rfl⟩ := Finset.mem_map.mp hi
    have := congrFun hf j
    rw [View.read_apply, View.read_apply] at this
    exact (cast_inj _).mp this
  iapply (Entails.of_eq (pointsTo_congr (ℓ := m.view.loc c) (q := q) hff)) $$ H

/-- Contents of the memref's buffer that it reads as `X`. -/
def laid [∀ e, Nonempty (Elt F e)] (X : s.Idx → Elt F e) : Buf (Elt F) (m.view.loc c) :=
  m.view.write (Elt F) (fun _ => Classical.arbitrary _) X Finset.univ

theorem read_laid [∀ e, Nonempty (Elt F e)] (X : s.Idx → Elt F e) : m.view.read (Elt F) (laid c m X) = X := View.read_write_univ _ _

theorem owns_laid [∀ e, Nonempty (Elt F e)] (q : PosShare TreeShare) (X : s.Idx → Elt F e) :
    (owns c m q X : sProp 𝕄) = (m.view.loc c ↦[m.view.set]{q} laid c m X) := by
  have h := owns_read (Ix := Ix) (Name := Name) (U := U) (Lvl := Lvl) c m q (laid c m X)
  rwa [read_laid] at h

/-- A memref owned at a share is owned at each of the share's `n` pieces. -/
theorem owns_pieces [∀ e, Nonempty (Elt F e)] (q : PosShare TreeShare) {n : ℕ} (hn : 0 < n) (X : s.Idx → Elt F e) :
    (owns c m q X : sProp 𝕄) = bigSep Finset.univ fun j : Fin n => owns c m (pieceOf q n hn j) X := by
  simp only [owns_laid]
  exact pointsTo_piecesOf _ _ hn q

/-- A slice of a memref may be borrowed and given back as it was. -/
theorem owns_slice_borrow (q : PosShare TreeShare) (X : s.Idx → Elt F e) (r : Rect s) (hr : ∀ a, r.stride a = 1) :
    (owns c m q X : sProp 𝕄) ⊢ iprop(owns c (m.slice r hr) q (fun j => X (r.emb j))
      ∗ (owns c (m.slice r hr) q (fun j => X (r.emb j)) -∗ owns c m q X)) := by
  iintro H
  ihave H := (owns_slice_split c m q r hr X) $$ H
  icases H with ⟨H1, ⟨%f, %hf, H2⟩⟩
  isplitl [H1]; · iexact H1
  iintro H1
  have hov : r.overlay (m.view.read (Elt F) f) (fun j => X (r.emb j)) = X := by
    funext i
    by_cases hi : i ∈ r.set
    · rw [← Rect.map_emb_univ] at hi
      obtain ⟨j, -, rfl⟩ := Finset.mem_map.mp hi
      rw [Rect.overlay_emb]
    · rw [Rect.overlay_of_not_mem _ _ _ hi, hf]
  ihave H := (owns_slice_join c m q r hr (fun j => X (r.emb j)) f) $$ [H1 H2]
  · isplitl [H1]; · iexact H1
    iexact H2
  rw [hov]
  iexact H

/-- A memref under a squeezed shape, at the contents read in the new shape's order. -/
theorem owns_squeeze {s' : Shape} (h : s.Squeezes s') (q : PosShare TreeShare) (X : s.Idx → Elt F e) :
    (owns c m q X : sProp 𝕄) ⊢ owns c (m.squeeze s' h) q (fun j => X (Shape.reshapeEquiv h.numel_eq j)) := by
  iintro H
  ihave H := (owns_out c m q X) $$ H
  icases H with ⟨%f, %hf, H⟩
  subst hf
  rw [← View.set_reshape (v := m.view) h.numel_eq]
  iapply (owns_intro c (m.squeeze s' h) q f) $$ H

/-- And back. -/
theorem owns_unsqueeze {s' : Shape} (h : s.Squeezes s') (q : PosShare TreeShare) (X : s.Idx → Elt F e) :
    (owns c (m.squeeze s' h) q (fun j => X (Shape.reshapeEquiv h.numel_eq j)) : sProp 𝕄) ⊢ owns c m q X := by
  iintro H
  ihave H := (owns_out c (m.squeeze s' h) q _) $$ H
  icases H with ⟨%f, %hf, H⟩
  have hX : X = m.view.read (Elt F) f := by
    funext i
    have := congrFun hf ((Shape.reshapeEquiv h.numel_eq).symm i)
    simp only [Equiv.apply_symm_apply] at this
    rw [← this]
    change m.view.read (Elt F) f (Shape.reshapeEquiv h.numel_eq ((Shape.reshapeEquiv h.numel_eq).symm i)) = _
    rw [Equiv.apply_symm_apply]
  have hset : (m.squeeze s' h).view.set = m.view.set := View.set_reshape (v := m.view) h.numel_eq
  rw [hX]
  iapply (owns_intro c m q f)
  rw [← hset]
  iexact H

end Owning

/-! ## Loads and stores -/

section Access

variable {cs : CoreSpace} {m : Memref sig c.2.kind cs s e}

/-- A load through a rectangle of a memref continues at the memref's contents there. -/
theorem wp_loadOwns {r : Rect s} {hl : m.view.LoadsAt r.toLoadRect} {k : (r.shape.Idx → Elt F e) → Prog (TpuEff nD τ sig (Elt F) Λ c.2) α}
    (q : PosShare TreeShare) (X : s.Idx → Elt F e) :
    (owns c m q X : sProp 𝕄)
      ⊢ iprop((owns c m q X -∗ wp frame (wpE defs 𝒱 c bd) Set.univ (k fun j => X (r.emb j)) Q)
          -∗ wp frame (wpE defs 𝒱 c bd) Set.univ (.op (.load m r.toLoadRect hl) k) Q) := by
  iintro H Hk
  ihave H := (owns_out c m q X) $$ H
  icases H with ⟨%f, %hf, H⟩
  subst hf
  iapply (wp_load_rect 𝒱 c bd Set.univ (m := m) (r := r) (View.set_slice_subset m.view r)) $$ H
  iintro H
  iapply Hk
  iapply (owns_intro c m q f) $$ H

/-- A store through a rectangle of a memref leaves contents that are what was stored in the rectangle and what they were
    outside it. -/
theorem wp_storeOwns {r : Rect s} {w : r.shape.Idx → Elt F e} {hx : (m.access r).Stores Finset.univ} {hm : Finset.univ = Finset.univ ∨ ∀ a, r.stride a = 1}
    {k : PUnit → Prog (TpuEff nD τ sig (Elt F) Λ c.2) α} (X : s.Idx → Elt F e) :
    (owns c m fullShare X : sProp 𝕄)
      ⊢ iprop((∀ Y, ⌜(∀ j, Y (r.emb j) = w j) ∧ ∀ y, y ∉ r.set → Y y = X y⌝ -∗ owns c m fullShare Y -∗ wp frame (wpE defs 𝒱 c bd) Set.univ (k ⟨⟩) Q)
          -∗ wp frame (wpE defs 𝒱 c bd) Set.univ (.op (.store m r w Finset.univ hx hm) k) Q) := by
  iintro H Hk
  ihave H := (owns_out c m fullShare X) $$ H
  icases H with ⟨%f, %hf, H⟩
  subst hf
  iapply (wp_store 𝒱 c bd Set.univ (m := m) (r := r) (w := w) (Mk := Finset.univ) (S := m.view.set) (View.set_slice_subset m.view r)) $$ H
  iintro H
  iapply Hk $$ %(m.view.read (Elt F) ((m.access r).write (Elt F) f w Finset.univ)) []
  · ipureintro
    refine ⟨fun j => View.read_slice_write_emb r f w (Finset.mem_univ j), fun y hy => View.read_slice_write_of_not_mem r f w _ ?_⟩
    rwa [Rect.map_emb_univ]
  · iapply (owns_intro c m fullShare _) $$ H

end Access

/-! ## What a thread owes, whatever waits of its own it has added -/

/-- The thread owes `O`, and every wait it has recorded beyond `W` was for its own transfers. -/
def Owed (ι : Ix) (O : CellTallies nD τ sig Ix) (W : Waits sig Ix) : sProp 𝕄 := iprop(∃ W', ⌜∀ p ∈ W', p ∈ W ∨ p.2 = ι⌝ ∗ owes c O W')

theorem owed_intro (ι : Ix) (O : CellTallies nD τ sig Ix) (W : Waits sig Ix) : (owes c O W : sProp 𝕄) ⊢ Owed c ι O W := by
  unfold Owed
  iintro H
  iexists W
  isplitr
  · ipureintro; exact fun p hp => .inl hp
  · iexact H

theorem owed_insert (ι : Ix) (O : CellTallies nD τ sig Ix) (W W' : Waits sig Ix) (h : ∀ p ∈ W', p ∈ W ∨ p.2 = ι) (sm : SemLoc sig) :
    (owes c O (insert (sm, ι) W') : sProp 𝕄) ⊢ Owed c ι O W := by
  unfold Owed
  iintro H
  iexists insert (sm, ι) W'
  isplitr
  · ipureintro
    intro p hp
    rcases Finset.mem_insert.mp hp with hp | hp
    · exact .inr (hp ▸ rfl)
    · exact h p hp
  · iexact H

/-! ## Copies -/

section Copy

variable [Infinite Name] [EC.LandsIn (upEmb : UEmb _ (MT nD τ sig Ix (Elt F) Name U Lvl))] {sp sp' : Space}

/-- A local copy started is in flight: its wait gives the destination holding what the source holds, and the source back. -/
theorem wp_copyStart {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ c.2) α} (ι : Ix) (N : ℕ) (hN : dst.view.dmaCredit = N) (hN0 : 0 < N)
    (q : PosShare TreeShare) (X Y : s.Idx → Elt F e) :
    iprop(owns c src q X ∗ owns c dst fullShare Y ∗ semVal (c, .dma sem) 0)
      ⊢ iprop((Flight EC c (.dma sem) ι N iprop(owns c dst fullShare X ∗ owns c src q X) -∗ wp frame (wpE defs 𝒱 c bd) Set.univ (k ⟨⟩) Q)
          -∗ wp frame (wpE defs 𝒱 c bd) Set.univ (.op (.enqueueDma src (.here dst) (.dma sem) hsrc hdst hsem) k) Q) := by
  iintro ⟨Hs, Hd, Hv⟩ Hk
  ihave Hs := (owns_out c src q X) $$ Hs
  icases Hs with ⟨%fs, %hfs, Hs⟩
  ihave Hd := (owns_out c dst fullShare Y) $$ Hd
  icases Hd with ⟨%fd, %hfd, Hd⟩
  subst hfs
  iapply (Transfers.wp_dmaLocal EC 𝒱 c bd (dst := dst) (sm := .dma sem) ι N hN hN0 (subset_refl _)) $$ [Hs Hd Hv]
  · isplitl [Hs]; · iexact Hs
    isplitl [Hd]; · iexact Hd
    iexact Hv
  iintro Hfl
  iapply Hk
  have hw : iprop((dst.view.loc c ↦[dst.view.set]{fullShare} (dst.view.write (Elt F) fd ((ReadAs.same : ReadAs (Elt F) s e s e).apply (src.view.read (Elt F) fs)) Finset.univ))
      ∗ (src.view.loc c ↦[src.view.set]{q} fs)) ⊢ (iprop(owns c dst fullShare (src.view.read (Elt F) fs) ∗ owns c src q (src.view.read (Elt F) fs)) : sProp 𝕄) := by
    iintro ⟨H1, H2⟩
    isplitl [H1]
    · ihave H1 := (owns_intro c dst fullShare _) $$ H1
      rw [View.read_write_univ, ReadAs.apply_same]
      iexact H1
    · iapply (owns_intro c src q fs) $$ H2
  iapply (Transfers.Flight_mono EC c hw) $$ Hfl

/-- The wait for a copy in flight. -/
theorem wp_copyWait {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Flight EC c (.dma sem) ι N D ∗ Owed c ι O W ∗ MayWaits c ι O)
      ⊢ iprop((iprop(D ∗ semVal (c, .dma sem) 0 ∗ Owed c ι O W) -∗ wp frame (wpE defs 𝒱 c bd) Set.univ (k ⟨⟩) Q)
          -∗ wp frame (wpE defs 𝒱 c bd) Set.univ (.op (.waitDma2 sem srcw dstw hsrc hdst) k) Q) := by
  iintro ⟨Hfl, HO, #Hmw⟩ Hk
  ihave HO := (show Owed c ι O W ⊢ iprop(∃ W', ⌜∀ p ∈ W', p ∈ W ∨ p.2 = ι⌝ ∗ owes c O W') from .rfl) $$ HO
  icases HO with ⟨%W', %hW', HO⟩
  iapply (Transfers.wp_waitLocalO EC 𝒱 c bd ι hN) $$ [Hfl HO]
  · isplitl [Hfl]; · iexact Hfl
    isplitl [HO]; · iexact HO
    iapply (Transfers.MayWaits.elim (SemLoc.dma sem)) $$ Hmw
  iintro ⟨HD, Hv, HO⟩
  iapply Hk
  isplitl [HD]; · iexact HD
  isplitl [Hv]; · iexact Hv
  iapply (owed_insert c ι O W W' hW') $$ HO

end Copy

/-! ## Several gathers on one semaphore -/

section Gathers

variable [Infinite Name] [EC.LandsIn (upEmb : UEmb _ (MT nD τ sig Ix (Elt F) Name U Lvl))] [∀ e, Nonempty (Elt F e)]
variable {s₀ si : Shape} {sp : Space} {a n : ℕ}
variable (src : Memref sig c.2.kind sp s₀ e) (dst : Fin n → Memref sig c.2.kind .vmem s e) (hg : s₀.Gathers a s)
  (offs : Fin n → Memref sig c.2.kind .vmem si .i32) (hn : si.numel = s.size hg.axis') (ho : 0 < s.size hg.axis') (hn0 : 0 < n)
  (q : PosShare TreeShare) (T : s₀.Idx → Elt F e) (Y : Fin n → s.Idx → Elt F e) (I : Fin n → si.Idx → Elt F .i32)
  (hin : ∀ g x, (I g x).toNat < s₀.size hg.axis)

/-- What row `j` of gather `g` gives back when it has landed. -/
def landedRow (g : Fin n) (j : Fin (s.size hg.axis')) : sProp 𝕄 :=
  rowPaid c src (dst g) hg (offs g) hn ho (pieceOf q n hn0 g) fullShare (laid c src T) (laid c (dst g) (Y g)) (laid c (offs g) (I g))
    (fun x => by rw [read_laid]; exact hin g x) j

/-- The rows of all the gathers in the order in which they are started: every row of the first, then every row of the
    second, and so on. -/
def landed (t : Fin (n * s.size hg.axis')) : sProp 𝕄 :=
  landedRow c src dst hg offs hn ho hn0 q T Y I hin (finProdFinEquiv.symm t).1 (finProdFinEquiv.symm t).2

instance landed_storable (t : Fin (n * s.size hg.axis')) : Storable (upEmb : UEmb _ 𝕄) (landed (Ix := Ix) (Name := Name) (U := U) (Lvl := Lvl) c src dst hg offs hn ho hn0 q T Y I hin t) := by
  unfold landed landedRow; infer_instance

theorem landed_at (g : Fin n) (j : Fin (s.size hg.axis')) (h : g.val * s.size hg.axis' + j.val < n * s.size hg.axis') :
    landed (Ix := Ix) (Name := Name) (U := U) (Lvl := Lvl) c src dst hg offs hn ho hn0 q T Y I hin ⟨g.val * s.size hg.axis' + j.val, h⟩
      = landedRow c src dst hg offs hn ho hn0 q T Y I hin g j := by
  have ht : (⟨g.val * s.size hg.axis' + j.val, h⟩ : Fin (n * s.size hg.axis')) = finProdFinEquiv (g, j) := by
    refine Fin.ext ?_
    change g.val * s.size hg.axis' + j.val = j.val + s.size hg.axis' * g.val
    rw [Nat.add_comm, Nat.mul_comm]
  unfold landed
  rw [ht, Equiv.symm_apply_apply]

/-- Every row landed: each destination holds the rows its list names, and the source and the lists are back. -/
theorem landed_all : bigSep Finset.univ (landed (Ix := Ix) (Name := Name) (U := U) (Lvl := Lvl) c src dst hg offs hn ho hn0 q T Y I hin)
    ⊢ iprop(owns c src q T ∗ bigSep Finset.univ (fun g => owns c (dst g) fullShare (gatherPayload hg T (SparseCore.rows (I g) hn (hin g))))
        ∗ bigSep Finset.univ (fun g => owns c (offs g) fullShare (I g))) := by
  rw [bigSep_univ_equiv finProdFinEquiv, BI.bigSep_univ_prod]
  have hrow : ∀ g : Fin n, bigSep Finset.univ (fun j => landed (Ix := Ix) (Name := Name) (U := U) (Lvl := Lvl) c src dst hg offs hn ho hn0 q T Y I hin (finProdFinEquiv (g, j)))
      ⊢ iprop(owns c (dst g) fullShare (gatherPayload hg T (SparseCore.rows (I g) hn (hin g))) ∗ (owns c src (pieceOf q n hn0 g) T ∗ owns c (offs g) fullShare (I g))) := fun g => by
    have h : ∀ (fs : Buf (Elt F) (src.view.loc c)) (fo : Buf (Elt F) ((offs g).view.loc c)) (T' : s₀.Idx → Elt F e) (I' : si.Idx → Elt F .i32)
        (hT : src.view.read (Elt F) fs = T') (hI : (offs g).view.read (Elt F) fo = I') (h₁ : ∀ x, ((offs g).view.read (Elt F) fo x).toNat < s₀.size hg.axis)
        (h₂ : ∀ x, (I' x).toNat < s₀.size hg.axis),
        bigSep Finset.univ (rowPaid c src (dst g) hg (offs g) hn ho (pieceOf q n hn0 g) fullShare fs (laid c (dst g) (Y g)) fo h₁)
          ⊢ (iprop(owns c (dst g) fullShare (gatherPayload hg T' (SparseCore.rows I' hn h₂)) ∗ owns c src (pieceOf q n hn0 g) T' ∗ owns c (offs g) fullShare I') : sProp 𝕄) := by
      intro fs fo T' I' hT hI h₁ h₂
      subst hT hI
      exact rowPaid_all c
    unfold landed
    simp only [Equiv.symm_apply_apply]
    exact h _ _ _ _ (read_laid c src T) (read_laid c (offs g) (I g)) _ _
  suffices hall : bigSep Finset.univ (fun g => iprop(owns c (dst g) fullShare (gatherPayload hg T (SparseCore.rows (I g) hn (hin g))) ∗ (owns c src (pieceOf q n hn0 g) T ∗ owns c (offs g) fullShare (I g))))
      ⊢ (iprop(owns c src q T ∗ bigSep Finset.univ (fun g => owns c (dst g) fullShare (gatherPayload hg T (SparseCore.rows (I g) hn (hin g))))
        ∗ bigSep Finset.univ (fun g => owns c (offs g) fullShare (I g))) : sProp 𝕄) from
    (BI.bigSep_mono fun g _ => hrow g).trans hall
  iintro H
  ihave H := Transfers.bigSep_sep_out _ _ _ $$ H
  icases H with ⟨Hd, H⟩
  ihave H := Transfers.bigSep_sep_out _ _ _ $$ H
  icases H with ⟨Hs, Ho⟩
  isplitl [Hs]
  · iapply (Entails.of_eq (owns_pieces c src q hn0 T).symm) $$ Hs
  isplitl [Hd]; · iexact Hd
  iexact Ho

/-- The first `m` gathers have been started on the semaphore, none awaited; the memrefs of the others are still held. -/
def Started (sem : DmaSem sig) (ι : Ix) (N m : ℕ) : sProp 𝕄 :=
  iprop(bigSep (Transfers.pending m) (fun g => iprop(owns c src (pieceOf q n hn0 g) T ∗ owns c (dst g) fullShare (Y g) ∗ owns c (offs g) fullShare (I g)))
    ∗ Batch EC c (.dma sem) ι N (landed c src dst hg offs hn ho hn0 q T Y I hin) (m * s.size hg.axis') 0)

/-- None started: the source's share, the destinations, the lists, the semaphore at zero. -/
theorem started_zero {sem : DmaSem sig} (ι : Ix) (N : ℕ) {E : Set Name} :
    iprop(owns c src q T ∗ bigSep Finset.univ (fun g => owns c (dst g) fullShare (Y g)) ∗ bigSep Finset.univ (fun g => owns c (offs g) fullShare (I g))
        ∗ semVal (c, .dma sem) 0)
      ⊢ (|={E}=> Started EC c src dst hg offs hn ho hn0 q T Y I hin sem ι N 0 : sProp 𝕄) := by
  iintro ⟨Hs, Hd, Ho, Hv⟩
  ihave Hs := (Entails.of_eq (owns_pieces c src q hn0 T)) $$ Hs
  imod (Transfers.batch_alloc' EC c (sm := .dma sem) ι N (landed c src dst hg offs hn ho hn0 q T Y I hin)) $$ Hv with HB
  imodintro
  unfold Started
  rw [Nat.zero_mul, Transfers.pending_zero]
  isplitr [HB]
  · ihave H := Transfers.bigSep_sep_in _ _ _ $$ [Hd Ho]; · isplitl [Hd] <;> iassumption
    ihave H := Transfers.bigSep_sep_in _ _ _ $$ [Hs H]; · isplitl [Hs] <;> iassumption
    iexact H
  · iexact HB

/-- The next gather started. -/
theorem wp_gatherStep {sem : DmaSem sig}
    {hp : c.2.kind = .scVector} {hsrc : src.view.WordExact} {he : e.bits = 32} {hsp : sp = .hbm ∨ sp = .shared} {hr : s₀.StreamRows a}
    {k : Prog (TpuEff nD τ sig (Elt F) Λ c.2) α} (ι : Ix) (N : ℕ) (g : Fin n)
    (hN : ∀ j, ((dst g).slice (s.rowRect hg.axis' j) (s.stride_rowRect hg.axis' j)).view.dmaCredit = N) :
    Started EC c src dst hg offs hn ho hn0 q T Y I hin sem ι N g.val
      ⊢ iprop((Started EC c src dst hg offs hn ho hn0 q T Y I hin sem ι N (g.val + 1) -∗ wp frame (wpE defs 𝒱 c bd) Set.univ k Q)
          -∗ wp frame (wpE defs 𝒱 c bd) Set.univ (enqueueIndirectGather hp src (dst g) hg (offs g) hn sem hsrc he hsp hr >>= fun _ => k) Q) := by
  have hle : g.val * s.size hg.axis' + s.size hg.axis' ≤ n * s.size hg.axis' := by
    rw [← Nat.succ_mul]; exact Nat.mul_le_mul_right _ g.isLt
  unfold Started
  iintro ⟨HP, HB⟩ Hk
  ihave HP := (Entails.of_eq (Transfers.bigSep_pending_step _ g.val g.isLt)) $$ HP
  icases HP with ⟨⟨Hs, Hd, Ho⟩, HP⟩
  ihave Hs := (Entails.of_eq (owns_laid c src (pieceOf q n hn0 g) T)) $$ Hs
  ihave Hd := (Entails.of_eq (owns_laid c (dst g) fullShare (Y g))) $$ Hd
  ihave Ho := (Entails.of_eq (owns_laid c (offs g) fullShare (I g))) $$ Ho
  iapply (wp_gatherInto EC 𝒱 c bd ι N hN ho (fun x => by rw [read_laid]; exact hin g x) hle
    (fun j => Entails.of_eq (landed_at c src dst hg offs hn ho hn0 q T Y I hin g j (by omega)).symm)) $$ [Hs Hd Ho HB]
  · isplitl [Hs]; · iexact Hs
    isplitl [Hd]; · iexact Hd
    isplitl [Ho]; · iexact Ho
    iexact HB
  iintro HB
  iapply Hk
  isplitl [HP]; · iexact HP
  rw [Nat.succ_mul]
  iexact HB

/-- All the gathers have been started on the semaphore, and `m` waits have been made. -/
def Awaited (sem : DmaSem sig) (ι : Ix) (N m : ℕ) : sProp 𝕄 :=
  Batch EC c (.dma sem) ι N (landed c src dst hg offs hn ho hn0 q T Y I hin) (n * s.size hg.axis') (m * (s.size hg.axis' * N))

theorem started_all {sem : DmaSem sig} (ι : Ix) (N : ℕ) :
    Started EC c src dst hg offs hn ho hn0 q T Y I hin sem ι N n ⊢ Awaited EC c src dst hg offs hn ho hn0 q T Y I hin sem ι N 0 := by
  unfold Started Awaited
  iintro ⟨-, HB⟩
  rw [Nat.zero_mul]
  iexact HB

variable {hsrc : src.view.WordExact} {O : CellTallies nD τ sig Ix} {W : Waits sig Ix}

/-- One wait. -/
theorem wp_gatherWait {sem : DmaSem sig} {dw : Memref sig c.2.kind .vmem s e} {hdst : dw.view.WordExact}
    {k : Prog (TpuEff nD τ sig (Elt F) Λ c.2) α} (ι : Ix) (N m : ℕ) (hm : m < n) (hN : dw.view.dmaCredit = s.size hg.axis' * N) :
    iprop(Awaited EC c src dst hg offs hn ho hn0 q T Y I hin sem ι N m ∗ Owed c ι O W ∗ MayWaits c ι O)
      ⊢ iprop((iprop(Awaited EC c src dst hg offs hn ho hn0 q T Y I hin sem ι N (m + 1) ∗ Owed c ι O W) -∗ wp frame (wpE defs 𝒱 c bd) Set.univ k Q)
          -∗ wp frame (wpE defs 𝒱 c bd) Set.univ (waitIndirectGather sem src dw hsrc hdst >>= fun _ => k) Q) := by
  unfold Awaited
  iintro ⟨HB, HO, #Hmw⟩ Hk
  ihave HO := (show Owed c ι O W ⊢ iprop(∃ W', ⌜∀ p ∈ W', p ∈ W ∨ p.2 = ι⌝ ∗ owes c O W') from .rfl) $$ HO
  icases HO with ⟨%W', %hW', HO⟩
  have hu : m * (s.size hg.axis' * N) + s.size hg.axis' * N ≤ N * (n * s.size hg.axis') := by
    rw [← Nat.succ_mul, Nat.mul_comm N, Nat.mul_assoc]; exact Nat.mul_le_mul_right _ hm
  iapply (Transfers.wp_waitBatchMulO EC 𝒱 c bd (D := landed c src dst hg offs hn ho hn0 q T Y I hin) (j := n * s.size hg.axis') (u := m * (s.size hg.axis' * N)) ι (s.size hg.axis') hN hu) $$ [HB HO]
  · isplitl [HB]; · iexact HB
    isplitl [HO]; · iexact HO
    iapply (Transfers.MayWaits.elim (SemLoc.dma sem)) $$ Hmw
  iintro ⟨HB, HO⟩
  iapply Hk
  isplitl [HB]
  · rw [Nat.succ_mul]; iexact HB
  · iapply (owed_insert c ι O W W' hW') $$ HO

/-- As many waits as gathers made: what all the gathers give, and the semaphore at zero. -/
theorem awaited_all {sem : DmaSem sig} (ι : Ix) (N : ℕ) (hN0 : 0 < N) :
    Awaited EC c src dst hg offs hn ho hn0 q T Y I hin sem ι N n
      ⊢ (|={Set.univ}=> iprop((owns c src q T ∗ bigSep Finset.univ (fun g => owns c (dst g) fullShare (gatherPayload hg T (SparseCore.rows (I g) hn (hin g))))
              ∗ bigSep Finset.univ (fun g => owns c (offs g) fullShare (I g))) ∗ semVal (c, .dma sem) 0) : sProp 𝕄) := by
  unfold Awaited
  rw [show n * (s.size hg.axis' * N) = N * (n * s.size hg.axis') by rw [Nat.mul_comm N, Nat.mul_assoc]]
  iintro HB
  imod (Transfers.batch_collect' EC c hN0) $$ HB with ⟨HD, Hv⟩
  imodintro
  isplitl [HD]; · iapply (landed_all c src dst hg offs hn ho hn0 q T Y I hin) $$ HD
  iexact Hv

end Gathers

end Cert.Access
-- ==== Proof.Body.lean ====
module

public import proofs.«01_k».proof.Proof.Gen.KernelIdeal.Skeleton

/-! The tile's program in pieces.

The printed body repeats a few pieces: sixteen index words given their codebooks' offsets, one gather started, one gather
awaited, one lane group of one frame summed. Each piece is written once here over the buffers it works on; the printed
body is these pieces put together. -/

@[expose] public section

set_option synthInstance.maxSize 4096

noncomputable section

namespace Cert.Tile

open Idealize.ShloMosaic Idealize.SL.Sem
open Cert.KernelIdeal Cert.KernelIdeal.Gen

variable {F : FTy → Type} [FloatOps F]

/-- The programs of the tile at grid coordinates `i`. -/
abbrev TileProg (F : FTy → Type) (i : grid0.Coords) (α : Type) : Type 1 :=
  Prog (TpuEff nD τ sig (Elt F) Λ₀ (.scVector ((i 0).castLE hcore0) ((i 1).castLE hsub0))) α

theorem inb_words (m : ℕ) (hm : m < 32) : ∀ a, (![16 * m] : Fin 1 → ℕ) a + S16.size a ≤ S512.size a :=
  Fin.forall_fin_one.2 (by change 16 * m + 16 ≤ 512; omega)

theorem inb_list (m : ℕ) (hm : m < 32) : ∀ a, (![m / 8, 16 * (m % 8)] : Fin 2 → ℕ) a + S1x16.size a ≤ S4x128.size a :=
  Fin.forall_fin_two.2 ⟨by change m / 8 + 1 ≤ 4; omega, by change 16 * (m % 8) + 16 ≤ 128; omega⟩

theorem inb_part (k : Fin 4) : ∀ a, (![128 * k.val, 0] : Fin 2 → ℕ) a + S128x128.size a ≤ S512x128.size a :=
  Fin.forall_fin_two.2 ⟨by change 128 * k.val + 128 ≤ 512; omega, by change 0 + 128 ≤ 128; omega⟩

theorem inb_row (k : Fin 4) : ∀ a, (![k.val, 0] : Fin 2 → ℕ) a + S1x128.size a ≤ S4x128.size a :=
  Fin.forall_fin_two.2 ⟨by change k.val + 1 ≤ 4; omega, by change 0 + 128 ≤ 128; omega⟩

section Fetch

variable {i : grid0.Coords} {α : Type} (raw : Memref sig .scVector .vmem S512 .i32) (idx : Memref sig .scVector .vmem S4x128 .i32)
  (add : IVec S16 32)

/-- Sixteen index words: loaded, the codebooks' offsets added, stored in the list of rows. -/
def word16 (m : ℕ) (hm : m < 32) (k : TileProg F i α) : TileProg F i α :=
  .op (.load raw (Rect.unit (s := S512) ![16 * m] S16.size (inb_words m hm)).toLoadRect (View.loadsAt_vmem h_S16)) fun v =>
  .op (.load idx (Rect.unit (s := S4x128) ![m / 8, 16 * (m % 8)] S1x16.size (inb_list m hm)).toLoadRect (View.loadsAt_vmem h_S1x16)) fun _ =>
  .op (.store idx (Rect.unit (s := S4x128) ![m / 8, 16 * (m % 8)] S1x16.size (inb_list m hm))
    (shapeCast S1x16 (addi (shapeCast S16 (show Vec F S16 .i32 from v) shapeCasts_S16_S16) add) shapeCasts_S16_S1x16) Finset.univ
    (View.stores_vmem_bits_univ h_S1x16 rfl) (.inl rfl)) fun _ => k

/-- The first `m` groups of sixteen index words, in order. -/
def words : (m : ℕ) → m ≤ 32 → TileProg F i α → TileProg F i α
  | 0, _, k => k
  | m + 1, hm, k => words m (Nat.le_of_succ_le hm) (word16 raw idx add m hm k)

variable (tbl : Memref sig .scVector .hbm S8192x128 .f32) (ixs : Memref sig .scVector .hbm S1048576 .i32)
  (hraw : raw.IsWhole) (rows : Memref sig .scVector .vmem S512x128 .f32) (gsem csem : DmaSems sig S_)

/-- The whole table, as the gathers name it. -/
abbrev tblWhole : Memref sig .scVector .hbm S8192x128 .f32 :=
  tbl.slice (Rect.unit (s := S8192x128) ![0, 0] S8192x128.size inb_S8192x128_S8192x128_0_0) (fun _ => rfl)
/-- Rows `128 k` to `128 k + 127` of the gathered rows. -/
abbrev rowsPart (k : Fin 4) : Memref sig .scVector .vmem S128x128 .f32 :=
  rows.slice (Rect.unit (s := S512x128) ![128 * k.val, 0] S128x128.size (inb_part k)) (fun _ => rfl)
/-- Row `k` of the list of rows: 128 words. -/
abbrev idxPart (k : Fin 4) : Memref sig .scVector .vmem S128 .i32 :=
  (idx.slice (Rect.unit (s := S4x128) ![k.val, 0] S1x128.size (inb_row k)) (fun _ => rfl)).squeeze S128 squeezes_S1x128_S128
/-- A chunk's 512 index words. -/
abbrev ixsAt (off : Fin 1 → ℕ) (h : ∀ a, off a + S512.size a ≤ S1048576.size a) : Memref sig .scVector .hbm S512 .i32 :=
  ixs.slice (Rect.unit (s := S1048576) off S512.size h) (fun _ => rfl)

/-- The gather of the `m`-th 128 rows started. -/
def gatherAt (m : Fin 4) (k : TileProg F i α) : TileProg F i α :=
  SparseCore.enqueueIndirectGather rfl (tblWhole tbl) (rowsPart rows m) gathers_S8192x128_S128x128 (idxPart idx m) rfl gsem.sem (View.wordExact_bits rfl) rfl (Or.inl rfl) >>= fun _ => k

/-- The first `m` gathers of a chunk, started one after the other. -/
def gathers : (m : ℕ) → m ≤ 4 → TileProg F i α → TileProg F i α
  | 0, _, k => k
  | m + 1, hm, k => gathers m (Nat.le_of_succ_le hm) (gatherAt idx tbl rows gsem ⟨m, hm⟩ k)

/-- The wait for the `m`-th gather. -/
def waitAt (m : Fin 4) (k : TileProg F i α) : TileProg F i α :=
  SparseCore.waitIndirectGather gsem.sem (tblWhole tbl) (rowsPart rows m) (View.wordExact_bits rfl) (View.wordExact_bits rfl) >>= fun _ => k

/-- The first `m` waits, one after the other. -/
def waits : (m : ℕ) → m ≤ 4 → TileProg F i α → TileProg F i α
  | 0, _, k => k
  | m + 1, hm, k => waits m (Nat.le_of_succ_le hm) (waitAt tbl rows gsem ⟨m, hm⟩ k)

/-- Fetching one chunk: its index words copied in, the list of rows made, the four gathers started and awaited. -/
def fetch (off : Fin 1 → ℕ) (h : ∀ a, off a + S512.size a ≤ S1048576.size a) (k : TileProg F i α) : TileProg F i α :=
  .op (.enqueueDma (ixsAt ixs off h) (.here raw) (.dma csem.sem) (View.wordExact_bits rfl) hraw.wordExact ⟨Or.inl rfl, trivial⟩) fun _ =>
  .op (.waitDma2 csem.sem (ixsAt ixs off h) raw (View.wordExact_bits rfl) hraw.wordExact) fun _ =>
  words raw idx add 32 (le_refl 32) <| gathers idx tbl rows gsem 4 (le_refl 4) <| waits tbl rows gsem 4 (le_refl 4) k

end Fetch

section Sum

variable {i : grid0.Coords} (rows : Memref sig .scVector .vmem S512x128 .f32) (acc : Memref sig .scVector .vmem S64x128 .f32)

/-- One row's sixteen lanes. -/
abbrev lane (v : Vec F S1x16 .f32) : FVec F S16 .f32 := shapeCast S16 v shapeCasts_S1x16_S16

/-- Sixteen lanes of a frame: the eight gathered rows loaded, summed left to right, stored. -/
def sum16 (o : Fin 8 → Fin 2 → ℕ) (ho : ∀ l, ∀ a, o l a + S1x16.size a ≤ S512x128.size a)
    (oa : Fin 2 → ℕ) (hoa : ∀ a, oa a + S1x16.size a ≤ S64x128.size a) (k : TileProg F i (BitVec 32)) : TileProg F i (BitVec 32) :=
  .op (.load rows (Rect.unit (s := S512x128) (o 0) S1x16.size (ho 0)).toLoadRect (View.loadsAt_vmem h_S1x16)) fun v0 =>
  .op (.load rows (Rect.unit (s := S512x128) (o 1) S1x16.size (ho 1)).toLoadRect (View.loadsAt_vmem h_S1x16)) fun v1 =>
  .op (.load rows (Rect.unit (s := S512x128) (o 2) S1x16.size (ho 2)).toLoadRect (View.loadsAt_vmem h_S1x16)) fun v2 =>
  .op (.load rows (Rect.unit (s := S512x128) (o 3) S1x16.size (ho 3)).toLoadRect (View.loadsAt_vmem h_S1x16)) fun v3 =>
  .op (.load rows (Rect.unit (s := S512x128) (o 4) S1x16.size (ho 4)).toLoadRect (View.loadsAt_vmem h_S1x16)) fun v4 =>
  .op (.load rows (Rect.unit (s := S512x128) (o 5) S1x16.size (ho 5)).toLoadRect (View.loadsAt_vmem h_S1x16)) fun v5 =>
  .op (.load rows (Rect.unit (s := S512x128) (o 6) S1x16.size (ho 6)).toLoadRect (View.loadsAt_vmem h_S1x16)) fun v6 =>
  .op (.load rows (Rect.unit (s := S512x128) (o 7) S1x16.size (ho 7)).toLoadRect (View.loadsAt_vmem h_S1x16)) fun v7 =>
  .op (.load acc (Rect.unit (s := S64x128) oa S1x16.size hoa).toLoadRect (View.loadsAt_vmem h_S1x16)) fun _ =>
  .op (.store acc (Rect.unit (s := S64x128) oa S1x16.size hoa)
    (shapeCast S1x16 (addf (addf (addf (addf (addf (addf (addf (lane (F := F) v0) (lane (F := F) v1)) (lane (F := F) v2)) (lane (F := F) v3)) (lane (F := F) v4)) (lane (F := F) v5)) (lane (F := F) v6)) (lane (F := F) v7)) shapeCasts_S16_S1x16)
    Finset.univ (View.stores_vmem_bits_univ h_S1x16 rfl) (.inl rfl)) fun _ => k

/-- The first `m` lane groups of a frame, in order. -/
def sums (o : Fin 8 → Fin 8 → Fin 2 → ℕ) (ho : ∀ d l, ∀ a, o d l a + S1x16.size a ≤ S512x128.size a)
    (oa : Fin 8 → Fin 2 → ℕ) (hoa : ∀ d, ∀ a, oa d a + S1x16.size a ≤ S64x128.size a) :
    (m : ℕ) → m ≤ 8 → TileProg F i (BitVec 32) → TileProg F i (BitVec 32)
  | 0, _, k => k
  | m + 1, hm, k => sums o ho oa hoa m (Nat.le_of_succ_le hm) (sum16 rows acc (o ⟨m, hm⟩) (ho ⟨m, hm⟩) (oa ⟨m, hm⟩) (hoa ⟨m, hm⟩) k)

end Sum

/-- Where the frame loop reads row `l`'s lanes of group `d`. -/
def rowAt (t : Fin k0_t2_loop.trips) : Fin 8 → Fin 8 → Fin 2 → ℕ := ![
    ![k0_off2 t, k0_off3 t 1#32, k0_off3 t 2#32, k0_off3 t 3#32, k0_off3 t 4#32, k0_off3 t 5#32, k0_off3 t 6#32, k0_off3 t 7#32],
    ![k0_off5 t, k0_off6 t 1#32, k0_off6 t 2#32, k0_off6 t 3#32, k0_off6 t 4#32, k0_off6 t 5#32, k0_off6 t 6#32, k0_off6 t 7#32],
    ![k0_off8 t, k0_off9 t 1#32, k0_off9 t 2#32, k0_off9 t 3#32, k0_off9 t 4#32, k0_off9 t 5#32, k0_off9 t 6#32, k0_off9 t 7#32],
    ![k0_off11 t, k0_off12 t 1#32, k0_off12 t 2#32, k0_off12 t 3#32, k0_off12 t 4#32, k0_off12 t 5#32, k0_off12 t 6#32, k0_off12 t 7#32],
    ![k0_off14 t, k0_off15 t 1#32, k0_off15 t 2#32, k0_off15 t 3#32, k0_off15 t 4#32, k0_off15 t 5#32, k0_off15 t 6#32, k0_off15 t 7#32],
    ![k0_off17 t, k0_off18 t 1#32, k0_off18 t 2#32, k0_off18 t 3#32, k0_off18 t 4#32, k0_off18 t 5#32, k0_off18 t 6#32, k0_off18 t 7#32],
    ![k0_off20 t, k0_off21 t 1#32, k0_off21 t 2#32, k0_off21 t 3#32, k0_off21 t 4#32, k0_off21 t 5#32, k0_off21 t 6#32, k0_off21 t 7#32],
    ![k0_off23 t, k0_off24 t 1#32, k0_off24 t 2#32, k0_off24 t 3#32, k0_off24 t 4#32, k0_off24 t 5#32, k0_off24 t 6#32, k0_off24 t 7#32]]
/-- Where the frame loop writes lane group `d`. -/
def accAt (t : Fin k0_t2_loop.trips) : Fin 8 → Fin 2 → ℕ := ![k0_off4 t, k0_off7 t, k0_off10 t, k0_off13 t, k0_off16 t, k0_off19 t, k0_off22 t, k0_off25 t]
theorem rowAt_eq : ∀ (t : Fin k0_t2_loop.trips) (d l : Fin 8), rowAt t d l = ![8 * t.val + l.val, 16 * d.val] := by decide +kernel
theorem accAt_eq : ∀ (t : Fin k0_t2_loop.trips) (d : Fin 8), accAt t d = ![t.val, 16 * d.val] := by decide +kernel

theorem trips1 : k0_t1_loop.trips = 64 := by decide +kernel
theorem trips2 : k0_t2_loop.trips = 64 := by decide +kernel

theorem row_inb (t : ℕ) (ht : t < 64) (d l : Fin 8) (o : Fin 2 → ℕ) (h : o = ![8 * t + l.val, 16 * d.val]) :
    ∀ a, o a + S1x16.size a ≤ S512x128.size a := by
  subst h
  exact Fin.forall_fin_two.2 ⟨by change 8 * t + l.val + 1 ≤ 512; omega, by change 16 * d.val + 16 ≤ 128; omega⟩

theorem acc_inb (t : ℕ) (ht : t < 64) (d : Fin 8) (o : Fin 2 → ℕ) (h : o = ![t, 16 * d.val]) :
    ∀ a, o a + S1x16.size a ≤ S64x128.size a := by
  subst h
  exact Fin.forall_fin_two.2 ⟨by change t + 1 ≤ 64; omega, by change 16 * d.val + 16 ≤ 128; omega⟩

/-- One frame. -/
def frameSum {i : grid0.Coords} (rows : Memref sig .scVector .vmem S512x128 .f32) (acc : Memref sig .scVector .vmem S64x128 .f32)
    (t : Fin k0_t2_loop.trips) (_ : BitVec 32) : TileProg F i (BitVec 32) :=
  sums rows acc (rowAt t) (fun d l => row_inb t.val (lt_of_lt_of_eq t.isLt trips2) d l _ (rowAt_eq t d l)) (accAt t)
    (fun d => acc_inb t.val (lt_of_lt_of_eq t.isLt trips2) d _ (accAt_eq t d)) 8 (le_refl 8) (.ret 0#32)

section Whole

variable (i : grid0.Coords)
  (tbl : Memref sig .scVector .hbm S8192x128 .f32) (ixs : Memref sig .scVector .hbm S1048576 .i32) (out : Memref sig .scVector .hbm S131072x128 .f32)
  (raw : Memref sig .scVector .vmem S512 .i32) (hraw : raw.IsWhole) (idx : Memref sig .scVector .vmem S4x128 .i32)
  (rows : Memref sig .scVector .vmem S512x128 .f32) (acc : Memref sig .scVector .vmem S64x128 .f32) (hacc : acc.IsWhole)
  (gsem csem osem : DmaSems sig S_)

/-- A chunk's 64 rows of the result. -/
abbrev outAt (o : Fin 2 → ℕ) (ho : ∀ a, o a + S64x128.size a ≤ S131072x128.size a) : Memref sig .scVector .hbm S64x128 .f32 :=
  out.slice (Rect.unit (s := S131072x128) o S64x128.size ho) (fun _ => rfl)

/-- A chunk's sums copied out, and the copy awaited. -/
def putOut (o : Fin 2 → ℕ) (ho : ∀ a, o a + S64x128.size a ≤ S131072x128.size a) : TileProg F i (BitVec 32) :=
  .op (.enqueueDma acc (.here (outAt out o ho)) (.dma osem.sem) hacc.wordExact (View.wordExact_bits rfl) ⟨Or.inl rfl, trivial⟩) fun _ =>
  .op (.waitDma2 osem.sem acc (outAt out o ho) hacc.wordExact (View.wordExact_bits rfl)) fun _ => .ret 0#32

/-- A chunk: fetched, its frames summed, the sums copied out. -/
def chunk (t : Fin k0_t1_loop.trips) (_ : BitVec 32) : TileProg F i (BitVec 32) :=
  fetch raw idx k0_pay1 tbl ixs hraw rows gsem csem (k0_off1 i t) (k0_off1_inb i t) <|
  Scf.Loop.for k0_t2_loop k0_t2_ok 0#32 (frameSum rows acc) >>= fun _ =>
  putOut i out acc hacc osem (k0_off26 i t) (k0_off26_inb i t)

/-- The tile's program: its chunks, one after the other. -/
def body : TileProg F i PUnit :=
  Scf.Loop.for k0_t1_loop k0_t1_ok 0#32 (chunk i tbl ixs out raw hraw idx rows acc hacc gsem csem osem) >>= fun _ => .ret ⟨⟩

end Whole

end Cert.Tile
-- ==== Proof.Values.lean ====
module

public import proofs.«01_k».proof.Proof.Body
public import Idealize.ShloMosaic.Lib.Pipeline.Value

/-! What one chunk computes, as functions of positions.

The kernel's flat index array is a function `J` of a position, its flat table a function `T` of a row and a column. A
chunk is 512 consecutive index words starting at a multiple of eight; each buffer a chunk fills is given here by what it
holds at each place. -/

@[expose] public section

noncomputable section

namespace Cert.Values

open Idealize.ShloMosaic
open Cert.KernelIdeal Cert.KernelIdeal.Gen Cert.Tile

variable {F : FTy → Type} [FloatOps F]

/-- The row of the flat table an index position names: its word, plus 1024 for each codebook before its own. -/
def word (J : ℕ → BitVec 32) (n : ℕ) : BitVec 32 := J n + BitVec.ofNat 32 (1024 * (n % 8))

/-- The sum of eight numbers, left to right. -/
def sum8 (g : Fin 8 → F .f32) : F .f32 :=
  FloatOps.addf (FloatOps.addf (FloatOps.addf (FloatOps.addf (FloatOps.addf (FloatOps.addf (FloatOps.addf (g 0) (g 1)) (g 2)) (g 3)) (g 4)) (g 5)) (g 6)) (g 7)

variable (J : ℕ → BitVec 32) (T : ℕ → ℕ → F .f32) (B : ℕ)

/-- The flat index array. -/
def ixsVal : S1048576.Idx → Elt F .i32 := fun y => J (y 0).val
/-- The flat table. -/
def tblVal : S8192x128.Idx → Elt F .f32 := fun y => T (y 0).val (y 1).val
/-- The chunk's index words as copied in. -/
def rawVal : S512.Idx → Elt F .i32 := fun y => J (B + (y 0).val)
/-- The chunk's list of table rows. -/
def idxVal : S4x128.Idx → Elt F .i32 := fun y => word J (B + 128 * (y 0).val + (y 1).val)
/-- The chunk's gathered rows. -/
def rowsVal : S512x128.Idx → Elt F .f32 := fun y => T (word J (B + (y 0).val)).toNat (y 1).val
/-- The chunk's 64 summed rows. -/
def accVal : S64x128.Idx → Elt F .f32 := fun y => sum8 fun l => T (word J (B + (8 * (y 0).val + l.val))).toNat (y 1).val
/-- The whole result. -/
def outVal : S131072x128.Idx → Elt F .f32 := fun y => sum8 fun l => T (word J (8 * (y 0).val + l.val)).toNat (y 1).val

/-- The offsets the kernel adds to sixteen index words: 1024 for each codebook before the word's own. -/
theorem offsets_eq : ∀ y : S16.Idx, k0_pay1 y = BitVec.ofNat 32 (1024 * ((y 0).val % 8)) := by decide +kernel

/-- The index of a row of `n` at `a`. -/
def one {n : ℕ} (a : Fin n) : (⟨1, ![n]⟩ : Shape).Idx := fun | ⟨0, _⟩ => a

/-- The index of one row of sixteen at lane `a`. -/
def lane1 (a : Fin 16) : S1x16.Idx := fun | ⟨0, _⟩ => (0 : Fin 1) | ⟨1, _⟩ => a

/-- Sixteen lanes under one leading coordinate, read at the lane. -/
theorem addUnit_apply {α : Type} (x : S16.Idx → α) (j : S1x16.Idx) : shapeCast S1x16 x shapeCasts_S16_S1x16 j = x (one (j 1)) := by
  refine shapeCast_apply x _ j _ ?_
  have h0 : (j 0).val = 0 := Nat.lt_one_iff.mp (j 0).isLt
  rw [Shape.rowMajor_val_one, Shape.rowMajor_val_two, h0, Nat.zero_mul, Nat.zero_add]
  rfl

/-- One row of sixteen lanes, read at a lane. -/
theorem lane_apply (v : Vec F S1x16 .f32) (y : S16.Idx) : lane v y = v (lane1 (y 0)) := by
  refine shapeCast_apply v _ y _ ?_
  rw [Shape.rowMajor_val_one, Shape.rowMajor_val_two]
  change 0 * 16 + (y 0).val = _
  rw [Nat.zero_mul, Nat.zero_add]

theorem word16_apply (v : S16.Idx → BitVec 32) (j : S1x16.Idx) :
    shapeCast S1x16 (addi (shapeCast S16 v shapeCasts_S16_S16) k0_pay1) shapeCasts_S16_S1x16 j
      = v (one (j 1)) + BitVec.ofNat 32 (1024 * ((j 1).val % 8)) := by
  rw [addUnit_apply, shapeCast_self]
  change v (one (j 1)) + k0_pay1 (one (j 1)) = _
  rw [offsets_eq]
  rfl

/-- The sum of eight rows' lanes, read at a lane. -/
theorem sum16_apply (v : Fin 8 → Vec F S1x16 .f32) (j : S1x16.Idx) :
    shapeCast S1x16 (addf (addf (addf (addf (addf (addf (addf (lane (F := F) (v 0)) (lane (F := F) (v 1))) (lane (F := F) (v 2))) (lane (F := F) (v 3)))
      (lane (F := F) (v 4))) (lane (F := F) (v 5))) (lane (F := F) (v 6))) (lane (F := F) (v 7))) shapeCasts_S16_S1x16 j
      = sum8 fun l => v l (lane1 (j 1)) := by
  rw [addUnit_apply]
  simp only [addf, sum8, lane_apply]
  rfl

/-- A gathered row among 128 rows of a chunk is the table's row its word names. -/
theorem gathered_apply (hix : ∀ n, (word J n).toNat < 8192) (I : S128.Idx → Elt F .i32) (b : ℕ) (hI : ∀ y, I y = word J (B + b + (y 0).val))
    (hin : ∀ x, (I x).toNat < S8192x128.size gathers_S8192x128_S128x128.axis) (y : S128x128.Idx) :
    SparseCore.gatherPayload (F := F) (e := .f32) gathers_S8192x128_S128x128 (tblVal T) (SparseCore.rows I rfl hin) y
      = T (word J (B + b + (y 0).val)).toNat (y 1).val := by
  have h0 : ((gathers_S8192x128_S128x128.idx (SparseCore.rows I rfl hin) y) 0).val = (I (S128.rowMajor.symm (y 0))).toNat :=
    congrArg Fin.val (gathers_S8192x128_S128x128.idx_axis (SparseCore.rows I rfl hin) y)
  have h1 : ((gathers_S8192x128_S128x128.idx (SparseCore.rows I rfl hin) y) 1).val = (y 1).val :=
    gathers_S8192x128_S128x128.idx_of_ne (SparseCore.rows I rfl hin) y 1 (by decide)
  have hx : S128.rowMajor.symm (show Fin S128.numel from y 0) = one (show Fin 128 from y 0) :=
    (Equiv.symm_apply_eq _).mpr (Fin.ext (by rw [Shape.rowMajor_val_one]; rfl))
  have hw : (I (S128.rowMajor.symm (show Fin S128.numel from y 0))) = word J (B + b + (y 0).val) := by rw [hx, hI]; rfl
  change T _ _ = _
  rw [h0, h1]
  exact congrArg (fun w : BitVec 32 => T w.toNat (y 1).val) hw

end Cert.Values
-- ==== Proof.Chunk.lean ====
module

public import proofs.«01_k».proof.Proof.Access
public import proofs.«01_k».proof.Proof.Values

/-! One chunk, piece by piece: its list of rows made, its gathers started, its frames summed. -/

@[expose] public section

set_option synthInstance.maxSize 4096

noncomputable section

namespace Cert.Chunk

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Flight MayWaits)
open Cert.KernelIdeal Cert.KernelIdeal.Gen Cert.Tile Cert.Values Cert.Access

variable {F : FTy → Type} [FloatOps F] {Ix : Type} [DecidableEq Ix] {Name : Type} [DecidableEq Name]
variable {U : Type} [URA U] {Lvl : Type} [Preorder Lvl]

local notation "𝕄" => MT nD τ sig Ix (Elt F) Name U Lvl

/-- The tile at grid coordinates `i` of device `d`. -/
abbrev thr (d : Dev nD) (i : grid0.Coords) : Thread nD τ := (d, .scVector ((i 0).castLE hcore0) ((i 1).castLE hsub0))

variable {defs : Defs nD τ sig (Elt F) Λ₀} (EC : UEmb Counters (MT nD τ sig Ix (Elt F) Name U Lvl)) (𝒱 : Variants) (bd : Option 𝒱.V)
  (d : Dev nD) (i : grid0.Coords) {α : Type} {Q : α → sProp (MT nD τ sig Ix (Elt F) Name U Lvl)}
  (J : ℕ → BitVec 32) (T : ℕ → ℕ → F .f32) (B : ℕ)

/-! ## The list of rows -/

section Words

variable (raw : Memref sig .scVector .vmem S512 .i32) (idx : Memref sig .scVector .vmem S4x128 .i32)

/-- The first `n` places of the list of rows have been made. -/
def Listed (n : ℕ) : sProp 𝕄 :=
  iprop(∃ X, ⌜∀ y : S4x128.Idx, 128 * (y 0).val + (y 1).val < n → X y = idxVal J B y⌝ ∗ owns (thr d i) idx fullShare X)

/-- One group of sixteen: sixteen more places of the list are made. -/
theorem wp_word16 (hB : B % 8 = 0) (m : ℕ) (hm : m < 32) (k : TileProg F i α) :
    iprop(owns (thr d i) raw fullShare (rawVal J B) ∗ Listed (F := F) (Ix := Ix) (Name := Name) (U := U) (Lvl := Lvl) d i J B idx (16 * m))
      ⊢ iprop((iprop(owns (thr d i) raw fullShare (rawVal J B) ∗ Listed (F := F) (Ix := Ix) (Name := Name) (U := U) (Lvl := Lvl) d i J B idx (16 * (m + 1)))
            -∗ wp frame (wpE defs 𝒱 (thr d i) bd) Set.univ k Q)
          -∗ wp frame (wpE defs 𝒱 (thr d i) bd) Set.univ (word16 raw idx k0_pay1 m hm k) Q) := by
  unfold word16 Listed
  iintro ⟨Hr, ⟨%X, %hX, Hi⟩⟩ Hk
  iapply (wp_loadOwns 𝒱 (thr d i) bd fullShare (rawVal J B)) $$ Hr
  iintro Hr
  iapply (wp_loadOwns 𝒱 (thr d i) bd fullShare X) $$ Hi
  iintro Hi
  iapply (wp_storeOwns 𝒱 (thr d i) bd X) $$ Hi
  iintro %Y %hY Hi
  iapply Hk
  isplitl [Hr]; · iexact Hr
  iexists Y
  isplitr
  · ipureintro
    intro y hy
    have h0 : (y 0).val < 4 := (y 0).isLt
    have h1 : (y 1).val < 128 := (y 1).isLt
    by_cases hin : y ∈ (Rect.unit (s := S4x128) ![m / 8, 16 * (m % 8)] S1x16.size (inb_list m hm)).set
    · rw [← Rect.map_emb_univ] at hin
      obtain ⟨j, -, rfl⟩ := Finset.mem_map.mp hin
      have hj : (j 1).val < 16 := (j 1).isLt
      have hj0 : (j 0).val = 0 := Nat.lt_one_iff.mp (j 0).isLt
      have e0 : ((Rect.unit (s := S4x128) ![m / 8, 16 * (m % 8)] S1x16.size (inb_list m hm)).emb j 0).val = m / 8 + 1 * (j 0).val := rfl
      have e1 : ((Rect.unit (s := S4x128) ![m / 8, 16 * (m % 8)] S1x16.size (inb_list m hm)).emb j 1).val = 16 * (m % 8) + 1 * (j 1).val := rfl
      refine (hY.1 j).trans ?_
      refine (word16_apply _ j).trans ?_
      change J (B + (16 * m + 1 * (j 1).val)) + _ = word J _
      unfold word
      rw [e0, e1]
      rw [show B + 128 * (m / 8 + 1 * (j 0).val) + (16 * (m % 8) + 1 * (j 1).val) = B + (16 * m + 1 * (j 1).val) by omega,
        show (B + (16 * m + 1 * (j 1).val)) % 8 = (j 1).val % 8 by omega]
    · rw [hY.2 y hin]
      refine hX y ?_
      by_contra hlt
      refine hin (Rect.mem_set_unit.mpr (Fin.forall_fin_two.2 ⟨?_, ?_⟩))
      · change m / 8 ≤ (y 0).val ∧ (y 0).val < m / 8 + 1
        omega
      · change 16 * (m % 8) ≤ (y 1).val ∧ (y 1).val < 16 * (m % 8) + 16
        omega
  · iexact Hi

/-- The first `m` groups of sixteen. -/
theorem wp_words (hB : B % 8 = 0) (k : TileProg F i α) : ∀ (m : ℕ) (hm : m ≤ 32),
    iprop(owns (thr d i) raw fullShare (rawVal J B) ∗ Listed (F := F) (Ix := Ix) (Name := Name) (U := U) (Lvl := Lvl) d i J B idx 0)
      ⊢ iprop((iprop(owns (thr d i) raw fullShare (rawVal J B) ∗ Listed (F := F) (Ix := Ix) (Name := Name) (U := U) (Lvl := Lvl) d i J B idx (16 * m))
            -∗ wp frame (wpE defs 𝒱 (thr d i) bd) Set.univ k Q)
          -∗ wp frame (wpE defs 𝒱 (thr d i) bd) Set.univ (words raw idx k0_pay1 m hm k) Q) := by
  intro m hm
  induction m generalizing k with
  | zero =>
    iintro H Hk
    iapply Hk $$ H
  | succ m ih =>
    iintro H Hk
    iapply (ih (word16 raw idx k0_pay1 m hm k) (Nat.le_of_succ_le hm)) $$ H
    iintro H
    iapply (wp_word16 𝒱 bd d i J B raw idx hB m hm k) $$ H
    iexact Hk

/-- All 512 places made: the list of rows. -/
theorem listed_all : Listed (F := F) (Ix := Ix) (Name := Name) (U := U) (Lvl := Lvl) d i J B idx (16 * 32) ⊢ owns (thr d i) idx fullShare (idxVal (F := F) J B) := by
  unfold Listed
  iintro ⟨%X, %hX, H⟩
  have hXe : X = idxVal (F := F) J B := funext fun y => hX y (by
    have h0 : (y 0).val < 4 := (y 0).isLt
    have h1 : (y 1).val < 128 := (y 1).isLt
    omega)
  rw [← hXe]
  iexact H

end Words

/-! ## The frames -/

section Frames

variable (rows : Memref sig .scVector .vmem S512x128 .f32) (acc : Memref sig .scVector .vmem S64x128 .f32)

/-- The rows before `t`, and the first `n` columns of row `t`, have been summed. -/
def Summed (t n : ℕ) : sProp 𝕄 :=
  iprop(∃ X, ⌜∀ y : S64x128.Idx, (y 0).val < t ∨ ((y 0).val = t ∧ (y 1).val < n) → X y = accVal J T B y⌝ ∗ owns (thr d i) acc fullShare X)

/-- One group of sixteen lanes of a frame. -/
theorem wp_sum16 (t m : ℕ) (ht : t < 64) (hm : m < 8) (o : Fin 8 → Fin 2 → ℕ) (ho : ∀ l, ∀ a, o l a + S1x16.size a ≤ S512x128.size a)
    (oa : Fin 2 → ℕ) (hoa : ∀ a, oa a + S1x16.size a ≤ S64x128.size a) (eo : ∀ l : Fin 8, o l = ![8 * t + l.val, 16 * m]) (ea : oa = ![t, 16 * m])
    (k : TileProg F i (BitVec 32)) {Q : BitVec 32 → sProp 𝕄} :
    iprop(owns (thr d i) rows fullShare (rowsVal J T B) ∗ Summed (F := F) (Ix := Ix) (Name := Name) (U := U) (Lvl := Lvl) d i J T B acc t (16 * m))
      ⊢ iprop((iprop(owns (thr d i) rows fullShare (rowsVal J T B) ∗ Summed (F := F) (Ix := Ix) (Name := Name) (U := U) (Lvl := Lvl) d i J T B acc t (16 * (m + 1)))
            -∗ wp frame (wpE defs 𝒱 (thr d i) bd) Set.univ k Q)
          -∗ wp frame (wpE defs 𝒱 (thr d i) bd) Set.univ (sum16 rows acc o ho oa hoa k) Q) := by
  subst ea
  obtain rfl : o = fun l => ![8 * t + l.val, 16 * m] := funext eo
  unfold sum16 Summed
  iintro ⟨Hr, ⟨%X, %hX, Ha⟩⟩ Hk
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare (rowsVal J T B)) $$ Hr
  iintro Hr
  iapply (wp_loadOwns 𝒱 (thr d i) bd fullShare X) $$ Ha
  iintro Ha
  iapply (wp_storeOwns 𝒱 (thr d i) bd X) $$ Ha
  iintro %Y %hY Ha
  iapply Hk
  isplitl [Hr]; · iexact Hr
  iexists Y
  isplitr
  · ipureintro
    intro y hy
    have h0 : (y 0).val < 64 := (y 0).isLt
    have h1 : (y 1).val < 128 := (y 1).isLt
    by_cases hin : y ∈ (Rect.unit (s := S64x128) ![t, 16 * m] S1x16.size hoa).set
    · rw [← Rect.map_emb_univ] at hin
      obtain ⟨j, -, rfl⟩ := Finset.mem_map.mp hin
      have hj0 : (j 0).val = 0 := Nat.lt_one_iff.mp (j 0).isLt
      refine (hY.1 j).trans ?_
      refine (sum16_apply (fun l => fun x => rowsVal J T B ((Rect.unit (s := S512x128) ![8 * t + l.val, 16 * m] S1x16.size (ho l)).emb x)) j).trans ?_
      unfold accVal
      congr 1
      funext l
      have e0 : ((Rect.unit (s := S64x128) ![t, 16 * m] S1x16.size hoa).emb j 0).val = t + 1 * (j 0).val := rfl
      change T (word J (B + (8 * t + l.val + 1 * 0))).toNat (16 * m + 1 * (j 1).val) = T (word J (B + (8 * _ + l.val))).toNat (16 * m + 1 * (j 1).val)
      rw [e0, show 8 * t + l.val + 1 * 0 = 8 * (t + 1 * (j 0).val) + l.val by omega]
    · rw [hY.2 y hin]
      refine hX y ?_
      by_contra hlt
      refine hin (Rect.mem_set_unit.mpr (Fin.forall_fin_two.2 ⟨?_, ?_⟩))
      · change t ≤ (y 0).val ∧ (y 0).val < t + 1
        omega
      · change 16 * m ≤ (y 1).val ∧ (y 1).val < 16 * m + 16
        omega
  · iexact Ha

/-- The first `m` groups of a frame. -/
theorem wp_sums (t : ℕ) (ht : t < 64) (o : Fin 8 → Fin 8 → Fin 2 → ℕ) (ho : ∀ g l, ∀ a, o g l a + S1x16.size a ≤ S512x128.size a)
    (oa : Fin 8 → Fin 2 → ℕ) (hoa : ∀ g, ∀ a, oa g a + S1x16.size a ≤ S64x128.size a)
    (eo : ∀ g l : Fin 8, o g l = ![8 * t + l.val, 16 * g.val]) (ea : ∀ g : Fin 8, oa g = ![t, 16 * g.val])
    (k : TileProg F i (BitVec 32)) {Q : BitVec 32 → sProp 𝕄} : ∀ (m : ℕ) (hm : m ≤ 8),
    iprop(owns (thr d i) rows fullShare (rowsVal J T B) ∗ Summed (F := F) (Ix := Ix) (Name := Name) (U := U) (Lvl := Lvl) d i J T B acc t (16 * 0))
      ⊢ iprop((iprop(owns (thr d i) rows fullShare (rowsVal J T B) ∗ Summed (F := F) (Ix := Ix) (Name := Name) (U := U) (Lvl := Lvl) d i J T B acc t (16 * m))
            -∗ wp frame (wpE defs 𝒱 (thr d i) bd) Set.univ k Q)
          -∗ wp frame (wpE defs 𝒱 (thr d i) bd) Set.univ (sums rows acc o ho oa hoa m hm k) Q) := by
  intro m hm
  induction m generalizing k with
  | zero =>
    iintro H Hk
    iapply Hk $$ H
  | succ m ih =>
    iintro H Hk
    iapply (ih (sum16 rows acc (o ⟨m, hm⟩) (ho ⟨m, hm⟩) (oa ⟨m, hm⟩) (hoa ⟨m, hm⟩) k) (Nat.le_of_succ_le hm)) $$ H
    iintro H
    iapply (wp_sum16 𝒱 bd d i J T B rows acc t m ht hm (o ⟨m, hm⟩) (ho ⟨m, hm⟩) (oa ⟨m, hm⟩) (hoa ⟨m, hm⟩) (eo ⟨m, hm⟩) (ea ⟨m, hm⟩) k) $$ H
    iexact Hk

/-- A frame summed is the next row's start. -/
theorem summed_next (t : ℕ) : Summed (F := F) (Ix := Ix) (Name := Name) (U := U) (Lvl := Lvl) d i J T B acc t (16 * 8)
    ⊢ Summed (F := F) (Ix := Ix) (Name := Name) (U := U) (Lvl := Lvl) d i J T B acc (t + 1) 0 := by
  unfold Summed
  iintro ⟨%X, %hX, H⟩
  iexists X
  isplitr
  · ipureintro
    intro y hy
    have h1 : (y 1).val < 128 := (y 1).isLt
    exact hX y (by omega)
  · iexact H

/-- All 64 frames summed. -/
theorem summed_all : Summed (F := F) (Ix := Ix) (Name := Name) (U := U) (Lvl := Lvl) d i J T B acc 64 0 ⊢ owns (thr d i) acc fullShare (accVal J T B) := by
  unfold Summed
  iintro ⟨%X, %hX, H⟩
  have hXe : X = accVal J T B := funext fun y => hX y (.inl (y 0).isLt)
  rw [← hXe]
  iexact H

/-- The state of the frame loop before frame `t`. -/
def FrameInv (t : ℕ) : sProp 𝕄 :=
  iprop(owns (thr d i) rows fullShare (rowsVal J T B) ∗ Summed (F := F) (Ix := Ix) (Name := Name) (U := U) (Lvl := Lvl) d i J T B acc t 0)

/-- One frame. -/
theorem wp_frameSum (t : Fin k0_t2_loop.trips) (v : BitVec 32) :
    FrameInv (F := F) (Ix := Ix) (Name := Name) (U := U) (Lvl := Lvl) d i J T B rows acc t.val
      ⊢ wp frame (wpE defs 𝒱 (thr d i) bd) Set.univ (frameSum rows acc t v) fun _ => FrameInv d i J T B rows acc (t.val + 1) := by
  unfold frameSum FrameInv
  iintro H
  iapply (wp_sums 𝒱 bd d i J T B rows acc t.val (lt_of_lt_of_eq t.isLt trips2) _ _ _ _ (rowAt_eq t) (accAt_eq t) _ 8 (le_refl 8)) $$ H
  iintro ⟨Hr, Ha⟩
  rw [wp_ret]
  imodintro
  isplitl [Hr]; · iexact Hr
  iapply (summed_next d i J T B acc t.val) $$ Ha

end Frames

end Cert.Chunk
-- ==== Proof.Strips.lean ====
module

public import proofs.«01_k».proof.Proof.Body

/-! Blocks of consecutive rows of a two-dimensional array, and the places of the tiles' chunks. -/

@[expose] public section

set_option synthInstance.maxSize 4096

namespace Cert.Strips

open Idealize.ShloMosaic
open Cert.KernelIdeal Cert.KernelIdeal.Gen

section Blocks

variable {N C k : ℕ} {T : Type} (o : T → Fin 2 → ℕ) (h : ∀ t, ∀ a, o t a + (![k, C] : Fin 2 → ℕ) a ≤ (⟨2, ![N, C]⟩ : Shape).size a)
  (num : T → ℕ) (h0 : ∀ t, o t 0 = k * num t)

include h0 in
/-- Blocks of `k` rows with different numbers have no place in common. -/
theorem blocks_disjoint (hinj : Function.Injective num) (t t' : T) (ht : t ≠ t') :
    Disjoint (Rect.unit (s := ⟨2, ![N, C]⟩) (o t) ![k, C] (h t)).set (Rect.unit (s := ⟨2, ![N, C]⟩) (o t') ![k, C] (h t')).set := by
  rw [Finset.disjoint_left]
  intro y hy hy'
  have e := Rect.mem_set_unit.mp hy 0
  have e' := Rect.mem_set_unit.mp hy' 0
  rw [h0] at e e'
  change k * num t ≤ (y 0).val ∧ (y 0).val < k * num t + k at e
  change k * num t' ≤ (y 0).val ∧ (y 0).val < k * num t' + k at e'
  have d : (y 0).val / k = num t := Nat.div_eq_of_lt_le (by rw [Nat.mul_comm]; exact e.1) (by rw [Nat.add_mul, Nat.one_mul, Nat.mul_comm (num t)]; exact e.2)
  have d' : (y 0).val / k = num t' := Nat.div_eq_of_lt_le (by rw [Nat.mul_comm]; exact e'.1) (by rw [Nat.add_mul, Nat.one_mul, Nat.mul_comm (num t')]; exact e'.2)
  exact ht (hinj (d.symm.trans d'))

include h0 in
/-- Blocks of `k` rows with every number that occurs cover the array. -/
theorem blocks_cover [Fintype T] (hk : 0 < k) (h1 : ∀ t, o t 1 = 0) (hsurj : ∀ m, k * m < N → ∃ t, num t = m) :
    Finset.univ.biUnion (fun t => (Rect.unit (s := ⟨2, ![N, C]⟩) (o t) ![k, C] (h t)).set) = Finset.univ := by
  refine Finset.eq_univ_iff_forall.mpr fun y => Finset.mem_biUnion.mpr ?_
  have hy0 : (y 0).val < N := (y 0).isLt
  have hy1 : (y 1).val < C := (y 1).isLt
  have hlo : k * ((y 0).val / k) ≤ (y 0).val := Nat.mul_div_le _ _
  have hhi : (y 0).val < k * ((y 0).val / k) + k := Nat.lt_mul_div_succ _ hk
  obtain ⟨t, ht⟩ := hsurj ((y 0).val / k) (lt_of_le_of_lt hlo hy0)
  refine ⟨t, Finset.mem_univ _, Rect.mem_set_unit.mpr (Fin.forall_fin_two.2 ⟨?_, ?_⟩)⟩
  · rw [h0, ht]; exact ⟨hlo, hhi⟩
  · rw [h1]; exact ⟨Nat.zero_le _, by rw [Nat.zero_add]; exact hy1⟩

end Blocks

/-- The number of chunk `t` of the tile at `i`, counted through the whole result. -/
def chunkNo (i : grid0.Coords) (t : Fin k0_t1_loop.trips) : ℕ := 128 * (i 1).val + 64 * (i 0).val + t.val

/-- A chunk's index words begin at 512 times its number. -/
theorem off1_eq : ∀ (i : grid0.Coords) (t : Fin k0_t1_loop.trips), k0_off1 i t 0 = 512 * chunkNo i t := by decide +kernel
/-- A chunk's rows of the result begin at 64 times its number, -/
theorem off26_eq : ∀ (i : grid0.Coords) (t : Fin k0_t1_loop.trips), k0_off26 i t 0 = 64 * chunkNo i t := by decide +kernel
/-- and are whole rows. -/
theorem off26_one : ∀ (i : grid0.Coords) (t : Fin k0_t1_loop.trips), k0_off26 i t 1 = 0 := by decide +kernel

end Cert.Strips
-- ==== Proof.ChunkRun.lean ====
module

public import proofs.«01_k».proof.Proof.Chunk
public import proofs.«01_k».proof.Proof.Strips

/-! One chunk run: fetched, summed, copied out. -/

@[expose] public section

set_option synthInstance.maxSize 4096

noncomputable section

namespace Cert.Chunk

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Flight MayWaits)
open Idealize.ShloMosaic.SparseCore (gatherPayload)
open Cert.KernelIdeal Cert.KernelIdeal.Gen Cert.Tile Cert.Values Cert.Access Cert.Strips

variable {F : FTy → Type} [FloatOps F] {Ix : Type} [DecidableEq Ix] {Name : Type} [DecidableEq Name]
variable {U : Type} [URA U] {Lvl : Type} [Preorder Lvl]

local notation "𝕄" => MT nD τ sig Ix (Elt F) Name U Lvl

variable {defs : Defs nD τ sig (Elt F) Λ₀} (EC : UEmb Counters (MT nD τ sig Ix (Elt F) Name U Lvl)) (𝒱 : Variants) (bd : Option 𝒱.V)
  (d : Dev nD) (i : grid0.Coords) {α : Type} {Q : α → sProp (MT nD τ sig Ix (Elt F) Name U Lvl)}
  (J : ℕ → BitVec 32) (T : ℕ → ℕ → F .f32) (B : ℕ)
  (tbl : Memref sig .scVector .hbm S8192x128 .f32) (idx : Memref sig .scVector .vmem S4x128 .i32) (rows : Memref sig .scVector .vmem S512x128 .f32)

/-! ## The list of rows and the gathered rows in four parts -/

/-- The words of the list that gather `g` reads. -/
def listVal (g : Fin 4) : S128.Idx → Elt F .i32 := fun y => word J (B + 128 * g.val + (y 0).val)

theorem listVal_eq (g : Fin 4) : (fun j : S128.Idx => idxVal (F := F) J B ((Rect.unit (s := S4x128) ![g.val, 0] S1x128.size (inb_row g)).emb
    (Shape.reshapeEquiv squeezes_S1x128_S128.numel_eq j))) = listVal J B g := by
  funext y
  have hy : Shape.reshapeEquiv squeezes_S1x128_S128.numel_eq y = (fun | ⟨0, _⟩ => (0 : Fin 1) | ⟨1, _⟩ => (y 0 : Fin 128) : S1x128.Idx) := by
    refine S1x128.rowMajor.injective (Fin.ext ?_)
    rw [Shape.rowMajor_reshapeEquiv]
    rw [Shape.rowMajor_val_one, Shape.rowMajor_val_two]
    change (y 0).val = 0 * 128 + (y 0).val
    omega
  rw [hy]
  change word J (B + 128 * (g.val + 1 * 0) + (0 + 1 * (y 0).val)) = word J (B + 128 * g.val + (y 0).val)
  congr 1
  omega

theorem idx_disjoint : ∀ g g' : Fin 4, g ≠ g' → Disjoint (Rect.unit (s := S4x128) ![g.val, 0] S1x128.size (inb_row g)).set (Rect.unit (s := S4x128) ![g'.val, 0] S1x128.size (inb_row g')).set :=
  blocks_disjoint (fun g : Fin 4 => ![g.val, 0]) inb_row (fun g => g.val) (fun g => (Nat.one_mul _).symm) Fin.val_injective
theorem idx_cover : Finset.univ.biUnion (fun g : Fin 4 => (Rect.unit (s := S4x128) ![g.val, 0] S1x128.size (inb_row g)).set) = Finset.univ :=
  blocks_cover (fun g : Fin 4 => ![g.val, 0]) inb_row (fun g => g.val) (fun g => (Nat.one_mul _).symm) Nat.one_pos (fun _ => rfl) (fun m hm => ⟨⟨m, by omega⟩, rfl⟩)
theorem rows_disjoint : ∀ g g' : Fin 4, g ≠ g' → Disjoint (Rect.unit (s := S512x128) ![128 * g.val, 0] S128x128.size (inb_part g)).set (Rect.unit (s := S512x128) ![128 * g'.val, 0] S128x128.size (inb_part g')).set :=
  blocks_disjoint (fun g : Fin 4 => ![128 * g.val, 0]) inb_part (fun g => g.val) (fun _ => rfl) Fin.val_injective
theorem rows_cover : Finset.univ.biUnion (fun g : Fin 4 => (Rect.unit (s := S512x128) ![128 * g.val, 0] S128x128.size (inb_part g)).set) = Finset.univ :=
  blocks_cover (fun g : Fin 4 => ![128 * g.val, 0]) inb_part (fun g => g.val) (fun _ => rfl) (by omega) (fun _ => rfl) (fun m hm => ⟨⟨m, by omega⟩, rfl⟩)

/-- The list of rows is its four rows. -/
theorem idx_split : (owns (thr d i) idx fullShare (idxVal (F := F) J B) : sProp 𝕄) ⊢ bigSep Finset.univ fun g : Fin 4 => owns (thr d i) (idxPart idx g) fullShare (listVal J B g) := by
  refine (owns_rects (thr d i) idx fullShare (fun g : Fin 4 => Rect.unit (s := S4x128) ![g.val, 0] S1x128.size (inb_row g)) (fun _ _ => rfl) idx_disjoint idx_cover _).trans (BI.bigSep_mono fun g _ => ?_)
  rw [← listVal_eq]
  exact owns_squeeze (thr d i) _ squeezes_S1x128_S128 fullShare _

theorem idx_join : (bigSep Finset.univ fun g : Fin 4 => owns (thr d i) (idxPart idx g) fullShare (listVal (F := F) J B g) : sProp 𝕄) ⊢ owns (thr d i) idx fullShare (idxVal (F := F) J B) := by
  refine Entails.trans ?_ (owns_of_rects (Ix := Ix) (Name := Name) (U := U) (Lvl := Lvl) (thr d i) idx fullShare (fun g : Fin 4 => Rect.unit (s := S4x128) ![g.val, 0] S1x128.size (inb_row g)) (fun _ _ => rfl) idx_disjoint idx_cover _)
  refine BI.bigSep_mono fun g _ => ?_
  rw [← listVal_eq]
  exact owns_unsqueeze (Ix := Ix) (Name := Name) (U := U) (Lvl := Lvl) (thr d i) (idx.slice (Rect.unit (s := S4x128) ![g.val, 0] S1x128.size (inb_row g)) (fun _ => rfl)) squeezes_S1x128_S128 fullShare
    (fun j => idxVal J B ((Rect.unit (s := S4x128) ![g.val, 0] S1x128.size (inb_row g)).emb j))

variable (hix : ∀ n, (word J n).toNat < 8192)

include hix in
theorem list_inb (g : Fin 4) (x : S128.Idx) : (listVal (F := F) J B g x).toNat < S8192x128.size gathers_S8192x128_S128x128.axis := hix _

/-- The four gathers' rows are the chunk's gathered rows. -/
theorem rows_join : (bigSep Finset.univ fun g : Fin 4 => owns (thr d i) (rowsPart rows g) fullShare
      (gatherPayload (F := F) (e := .f32) gathers_S8192x128_S128x128 (tblVal T) (SparseCore.rows (listVal (F := F) J B g) rfl (list_inb J B hix g))) : sProp 𝕄)
    ⊢ owns (thr d i) rows fullShare (rowsVal J T B) := by
  refine Entails.trans ?_ (owns_of_rects (Ix := Ix) (Name := Name) (U := U) (Lvl := Lvl) (thr d i) rows fullShare (fun g : Fin 4 => Rect.unit (s := S512x128) ![128 * g.val, 0] S128x128.size (inb_part g)) (fun _ _ => rfl) rows_disjoint rows_cover _)
  refine BI.bigSep_mono fun g _ => ?_
  refine Entails.of_eq (congrArg (fun X => (owns (thr d i) (rowsPart rows g) fullShare X : sProp 𝕄)) (funext fun y => ?_))
  refine (gathered_apply J T B hix (listVal (F := F) J B g) (128 * g.val) (fun _ => rfl) (list_inb J B hix g) y).trans ?_
  change T (word J (B + 128 * g.val + (y 0).val)).toNat (y 1).val = T (word J (B + (128 * g.val + 1 * (y 0).val))).toNat (0 + 1 * (y 1).val)
  rw [show B + (128 * g.val + 1 * (y 0).val) = B + 128 * g.val + (y 0).val by omega, show 0 + 1 * (y 1).val = (y 1).val by omega]

/-! ## The four gathers -/

section Gathers

variable [Infinite Name] [EC.LandsIn (upEmb : UEmb _ (MT nD τ sig Ix (Elt F) Name U Lvl))]
variable (gsem : DmaSems sig S_) (ι : Ix) (q : PosShare TreeShare) (Y : S512x128.Idx → Elt F .f32)

/-- The units one gathered row pays. -/
abbrev rowUnits : ℕ := RefSig.bitCredit (S128x128.rowShape 0) .f32

theorem rowUnits_pos : 0 < rowUnits := by decide +kernel

theorem partUnits (g : Fin 4) : (rowsPart rows g).view.dmaCredit = S128x128.size gathers_S8192x128_S128x128.axis' * rowUnits := by
  change RefSig.bitCredit S128x128 .f32 = _
  decide +kernel

/-- The first `m` gathers of a chunk started. -/
def GStarted (m : ℕ) : sProp 𝕄 :=
  Started EC (thr d i) (tblWhole tbl) (rowsPart rows) gathers_S8192x128_S128x128 (idxPart idx) rfl (by decide) (by decide : 0 < 4) q (tblVal T)
    (fun g j => Y ((Rect.unit (s := S512x128) ![128 * g.val, 0] S128x128.size (inb_part g)).emb j)) (listVal J B) (list_inb J B hix) gsem.sem ι rowUnits m

/-- The first `m` waits of a chunk's gathers made. -/
def GAwaited (m : ℕ) : sProp 𝕄 :=
  Awaited EC (thr d i) (tblWhole tbl) (rowsPart rows) gathers_S8192x128_S128x128 (idxPart idx) rfl (by decide) (by decide : 0 < 4) q (tblVal T)
    (fun g j => Y ((Rect.unit (s := S512x128) ![128 * g.val, 0] S128x128.size (inb_part g)).emb j)) (listVal J B) (list_inb J B hix) gsem.sem ι rowUnits m

/-- None started: the table's share, the rows at `Y`, the list, the semaphore at zero. -/
theorem gstarted_zero : iprop(owns (thr d i) (tblWhole tbl) q (tblVal T) ∗ owns (thr d i) rows fullShare Y ∗ owns (thr d i) idx fullShare (idxVal (F := F) J B)
      ∗ semVal (thr d i, .dma gsem.sem) 0)
    ⊢ (|={Set.univ}=> GStarted EC d i J T B tbl idx rows hix gsem ι q Y 0 : sProp 𝕄) := by
  iintro ⟨Ht, Hrows, Hidx, Hg⟩
  ihave Hidx := (idx_split d i J B idx) $$ Hidx
  ihave Hrows := (owns_rects (thr d i) rows fullShare (fun g : Fin 4 => Rect.unit (s := S512x128) ![128 * g.val, 0] S128x128.size (inb_part g)) (fun _ _ => rfl) rows_disjoint rows_cover Y) $$ Hrows
  unfold GStarted
  iapply (started_zero EC (thr d i) (tblWhole tbl) (rowsPart rows) gathers_S8192x128_S128x128 (idxPart idx) rfl _ _ q (tblVal T)
    _ (listVal J B) (list_inb J B hix) (sem := gsem.sem) ι rowUnits)
  isplitl [Ht]; · iexact Ht
  isplitl [Hrows]; · iexact Hrows
  isplitl [Hidx]; · iexact Hidx
  iexact Hg

theorem gstarted_all : GStarted EC d i J T B tbl idx rows hix gsem ι q Y 4 ⊢ GAwaited EC d i J T B tbl idx rows hix gsem ι q Y 0 := by
  unfold GStarted GAwaited
  exact started_all EC _ _ _ _ _ _ _ _ _ _ _ _ _ ι rowUnits

/-- All awaited: the gathered rows, the table's share, the list, the semaphore at zero. -/
theorem gawaited_all : GAwaited EC d i J T B tbl idx rows hix gsem ι q Y 4
    ⊢ (|={Set.univ}=> iprop(owns (thr d i) (tblWhole tbl) q (tblVal T) ∗ owns (thr d i) rows fullShare (rowsVal J T B) ∗ owns (thr d i) idx fullShare (idxVal (F := F) J B)
      ∗ semVal (thr d i, .dma gsem.sem) 0) : sProp 𝕄) := by
  unfold GAwaited
  iintro HS
  imod (awaited_all EC (thr d i) (tblWhole tbl) (rowsPart rows) gathers_S8192x128_S128x128 (idxPart idx) rfl _ _ q (tblVal T)
    _ (listVal J B) (list_inb J B hix) ι rowUnits rowUnits_pos) $$ HS with ⟨⟨Ht, Hrows, Hidx⟩, Hg⟩
  imodintro
  isplitl [Ht]; · iexact Ht
  isplitl [Hrows]; · iapply (rows_join d i J T B rows hix) $$ Hrows
  isplitl [Hidx]; · iapply (idx_join d i J B idx) $$ Hidx
  iexact Hg

/-- The gathers started one by one. -/
theorem wp_gathers (k : TileProg F i α) : ∀ (m : ℕ) (hm : m ≤ 4),
    GStarted EC d i J T B tbl idx rows hix gsem ι q Y 0
      ⊢ iprop((GStarted EC d i J T B tbl idx rows hix gsem ι q Y m -∗ wp frame (wpE defs 𝒱 (thr d i) bd) Set.univ k Q)
          -∗ wp frame (wpE defs 𝒱 (thr d i) bd) Set.univ (gathers idx tbl rows gsem m hm k) Q) := by
  intro m hm
  induction m generalizing k with
  | zero =>
    iintro H Hk
    iapply Hk $$ H
  | succ m ih =>
    iintro H Hk
    iapply (ih (gatherAt idx tbl rows gsem ⟨m, hm⟩ k) (Nat.le_of_succ_le hm)) $$ H
    iintro H
    unfold gatherAt GStarted
    iapply (wp_gatherStep EC 𝒱 (thr d i) bd (tblWhole tbl) (rowsPart rows) gathers_S8192x128_S128x128 (idxPart idx) rfl _ _ q (tblVal T)
      _ (listVal J B) (list_inb J B hix) ι rowUnits ⟨m, hm⟩ (fun _ => rfl)) $$ H
    iexact Hk

variable {O : CellTallies nD τ sig Ix} {W : Waits sig Ix}

/-- The waits, one by one. -/
theorem wp_waits (k : TileProg F i α) : ∀ (m : ℕ) (hm : m ≤ 4),
    iprop(GAwaited EC d i J T B tbl idx rows hix gsem ι q Y 0 ∗ Owed (thr d i) ι O W ∗ MayWaits (thr d i) ι O)
      ⊢ iprop((iprop(GAwaited EC d i J T B tbl idx rows hix gsem ι q Y m ∗ Owed (thr d i) ι O W) -∗ wp frame (wpE defs 𝒱 (thr d i) bd) Set.univ k Q)
          -∗ wp frame (wpE defs 𝒱 (thr d i) bd) Set.univ (waits tbl rows gsem m hm k) Q) := by
  intro m hm
  induction m generalizing k with
  | zero =>
    iintro ⟨H, HO, -⟩ Hk
    iapply Hk
    isplitl [H] <;> iassumption
  | succ m ih =>
    iintro ⟨H, HO, #Hmw⟩ Hk
    iapply (ih (waitAt tbl rows gsem ⟨m, hm⟩ k) (Nat.le_of_succ_le hm)) $$ [H HO]
    · isplitl [H]; · iexact H
      isplitl [HO]; · iexact HO
      iexact Hmw
    iintro ⟨H, HO⟩
    unfold waitAt GAwaited
    iapply (wp_gatherWait EC 𝒱 (thr d i) bd (tblWhole tbl) (rowsPart rows) gathers_S8192x128_S128x128 (idxPart idx) rfl _ _ q (tblVal T)
      _ (listVal J B) (list_inb J B hix) ι rowUnits m hm (partUnits rows ⟨m, hm⟩)) $$ [H HO]
    · isplitl [H]; · iexact H
      isplitl [HO]; · iexact HO
      iexact Hmw
    iexact Hk

end Gathers

end Cert.Chunk
-- ==== Proof.TileRun.lean ====
module

public import proofs.«01_k».proof.Proof.ChunkRun

/-! The tile's program run: a chunk fetched, summed and copied out; then all the chunks. -/

@[expose] public section

set_option synthInstance.maxSize 4096

noncomputable section

namespace Cert.Chunk

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Flight MayWaits)
open Idealize.ShloMosaic.SparseCore (gatherPayload)
open Cert.KernelIdeal Cert.KernelIdeal.Gen Cert.Tile Cert.Values Cert.Access Cert.Strips

variable {F : FTy → Type} [FloatOps F] {Ix : Type} [DecidableEq Ix] {Name : Type} [DecidableEq Name] [Infinite Name]
variable {U : Type} [URA U] {Lvl : Type} [Preorder Lvl]

local notation "𝕄" => MT nD τ sig Ix (Elt F) Name U Lvl

variable {defs : Defs nD τ sig (Elt F) Λ₀} (EC : UEmb Counters (MT nD τ sig Ix (Elt F) Name U Lvl)) (𝒱 : Variants) (bd : Option 𝒱.V)
variable [EC.LandsIn (upEmb : UEmb _ (MT nD τ sig Ix (Elt F) Name U Lvl))]
variable (d : Dev nD) (i : grid0.Coords) {α : Type} {Q : α → sProp (MT nD τ sig Ix (Elt F) Name U Lvl)}
  (J : ℕ → BitVec 32) (T : ℕ → ℕ → F .f32) (hix : ∀ n, (word J n).toNat < 8192)
  (tbl : Memref sig .scVector .hbm S8192x128 .f32) (ixs : Memref sig .scVector .hbm S1048576 .i32) (out : Memref sig .scVector .hbm S131072x128 .f32)
  (raw : Memref sig .scVector .vmem S512 .i32) (hraw : raw.IsWhole) (idx : Memref sig .scVector .vmem S4x128 .i32)
  (rows : Memref sig .scVector .vmem S512x128 .f32) (acc : Memref sig .scVector .vmem S64x128 .f32) (hacc : acc.IsWhole)
  (gsem csem osem : DmaSems sig S_) (ι : Ix) (q : PosShare TreeShare) (O : CellTallies nD τ sig Ix) (W : Waits sig Ix)

/-- What a tile holds between chunks, its part of the result apart: the inputs, its scratch at any contents, its
    semaphores at zero. -/
def Idle : sProp 𝕄 :=
  iprop(owns (thr d i) tbl q (tblVal T) ∗ owns (thr d i) ixs q (ixsVal (F := F) J)
    ∗ (∃ X, owns (thr d i) raw fullShare X) ∗ (∃ X, owns (thr d i) idx fullShare X) ∗ (∃ X, owns (thr d i) rows fullShare X) ∗ (∃ X, owns (thr d i) acc fullShare X)
    ∗ semVal (thr d i, .dma gsem.sem) 0 ∗ semVal (thr d i, .dma csem.sem) 0 ∗ semVal (thr d i, .dma osem.sem) 0 ∗ Owed (thr d i) ι O W)

/-- The same, the chunk at `B` fetched. -/
def Ready (B : ℕ) : sProp 𝕄 :=
  iprop(owns (thr d i) tbl q (tblVal T) ∗ owns (thr d i) ixs q (ixsVal (F := F) J)
    ∗ (∃ X, owns (thr d i) raw fullShare X) ∗ (∃ X, owns (thr d i) idx fullShare X) ∗ owns (thr d i) rows fullShare (rowsVal J T B) ∗ (∃ X, owns (thr d i) acc fullShare X)
    ∗ semVal (thr d i, .dma gsem.sem) 0 ∗ semVal (thr d i, .dma csem.sem) 0 ∗ semVal (thr d i, .dma osem.sem) 0 ∗ Owed (thr d i) ι O W)

theorem tblWhole_val : (fun j => tblVal T ((Rect.unit (s := S8192x128) ![0, 0] S8192x128.size inb_S8192x128_S8192x128_0_0).emb j)) = tblVal T := by
  funext j
  change T (0 + 1 * (j 0).val) (0 + 1 * (j 1).val) = T (j 0).val (j 1).val
  simp only [Nat.zero_add, Nat.one_mul]

include EC hix in
/-- A chunk fetched. -/
theorem wp_fetch (B : ℕ) (hB : B % 8 = 0) (off : Fin 1 → ℕ) (h : ∀ a, off a + S512.size a ≤ S1048576.size a) (hoff : off 0 = B) (k : TileProg F i α) :
    iprop(Idle d i J T tbl ixs raw idx rows acc gsem csem osem ι q O W ∗ MayWaits (thr d i) ι O)
      ⊢ iprop((Ready d i J T tbl ixs raw idx rows acc gsem csem osem ι q O W B -∗ wp frame (wpE defs 𝒱 (thr d i) bd) Set.univ k Q)
          -∗ wp frame (wpE defs 𝒱 (thr d i) bd) Set.univ (fetch raw idx k0_pay1 tbl ixs hraw rows gsem csem off h k) Q) := by
  have hval : (fun j => ixsVal (F := F) J ((Rect.unit (s := S1048576) off S512.size h).emb j)) = rawVal J B := by
    funext j
    change J (off 0 + 1 * (j 0).val) = J (B + (j 0).val)
    rw [hoff, Nat.one_mul]
  unfold Idle Ready fetch
  iintro ⟨⟨Ht, Hi, ⟨%Xr, Hraw⟩, ⟨%Xi, Hidx⟩, ⟨%Y, Hrows⟩, Hacc, Hg, Hc, Hos, HO⟩, #Hmw⟩ Hk
  ihave Hi := (owns_slice_borrow (thr d i) ixs q (ixsVal (F := F) J) (Rect.unit (s := S1048576) off S512.size h) (fun _ => rfl)) $$ Hi
  icases Hi with ⟨Hi, Hib⟩
  iapply (wp_copyStart EC 𝒱 (thr d i) bd ι _ rfl (View.dmaCredit_pos _ (by decide)) q _ Xr) $$ [Hi Hraw Hc]
  · isplitl [Hi]; · iexact Hi
    isplitl [Hraw]; · iexact Hraw
    iexact Hc
  iintro Hfl
  iapply (wp_copyWait EC 𝒱 (thr d i) bd ι rfl) $$ [Hfl HO]
  · isplitl [Hfl]; · iexact Hfl
    isplitl [HO]; · iexact HO
    iexact Hmw
  iintro ⟨⟨Hraw, Hi⟩, Hc, HO⟩
  ihave Hi := Hib $$ Hi
  rw [hval]
  iapply (wp_words 𝒱 bd d i J B raw idx hB _ 32 (le_refl 32)) $$ [Hraw Hidx]
  · isplitl [Hraw]; · iexact Hraw
    unfold Listed
    iexists Xi
    isplitr
    · ipureintro; intro y hy; exact absurd hy (Nat.not_lt_zero _)
    · iexact Hidx
  iintro ⟨Hraw, Hidx⟩
  ihave Hidx := (listed_all d i J B idx) $$ Hidx
  ihave Ht := (owns_slice_borrow (thr d i) tbl q (tblVal T) (Rect.unit (s := S8192x128) ![0, 0] S8192x128.size inb_S8192x128_S8192x128_0_0) (fun _ => rfl)) $$ Ht
  icases Ht with ⟨Ht, Htb⟩
  rw [tblWhole_val]
  imod (gstarted_zero EC d i J T B tbl idx rows hix gsem ι q Y) $$ [Ht Hrows Hidx Hg] with HS
  · isplitl [Ht]; · iexact Ht
    isplitl [Hrows]; · iexact Hrows
    isplitl [Hidx]; · iexact Hidx
    iexact Hg
  iapply (wp_gathers EC 𝒱 bd d i J T B tbl idx rows hix gsem ι q Y _ 4 (le_refl 4)) $$ HS
  iintro HS
  ihave HS := (gstarted_all EC d i J T B tbl idx rows hix gsem ι q Y) $$ HS
  iapply (wp_waits EC 𝒱 bd d i J T B tbl idx rows hix gsem ι q Y _ 4 (le_refl 4)) $$ [HS HO]
  · isplitl [HS]; · iexact HS
    isplitl [HO]; · iexact HO
    iexact Hmw
  iintro ⟨HS, HO⟩
  imod (gawaited_all EC d i J T B tbl idx rows hix gsem ι q Y) $$ HS with ⟨Ht, Hrows, Hidx, Hg⟩
  ihave Ht := Htb $$ Ht
  iapply Hk
  isplitl [Ht]; · iexact Ht
  isplitl [Hi]; · iexact Hi
  isplitl [Hraw]; · iexists _; iexact Hraw
  isplitl [Hidx]; · iexists _; iexact Hidx
  isplitl [Hrows]; · iexact Hrows
  isplitl [Hacc]; · iexact Hacc
  isplitl [Hg]; · iexact Hg
  isplitl [Hc]; · iexact Hc
  isplitl [Hos]; · iexact Hos
  iexact HO

/-- The place of chunk `t`'s rows in the result. -/
abbrev outRect (t : Fin k0_t1_loop.trips) : Rect S131072x128 := Rect.unit (s := S131072x128) (k0_off26 i t) S64x128.size (k0_off26_inb i t)

/-- What chunk `t` puts into the result. -/
theorem accVal_out (t : Fin k0_t1_loop.trips) : accVal J T (512 * chunkNo i t) = fun j => outVal J T ((outRect i t).emb j) := by
  funext y
  unfold accVal outVal
  congr 1
  funext l
  have e0 : ((outRect i t).emb y 0).val = k0_off26 i t 0 + 1 * (y 0).val := rfl
  have e1 : ((outRect i t).emb y 1).val = k0_off26 i t 1 + 1 * (y 1).val := rfl
  rw [e0, e1, off26_eq, off26_one]
  congr 3 <;> omega

include EC hix in
/-- One chunk: its rows of the result hold what the whole result holds there. -/
theorem wp_chunk (t : Fin k0_t1_loop.trips) (v : BitVec 32) (Z : S64x128.Idx → Elt F .f32) :
    (iprop(Idle d i J T tbl ixs raw idx rows acc gsem csem osem ι q O W ∗ MayWaits (thr d i) ι O ∗ owns (thr d i) (outAt out (k0_off26 i t) (k0_off26_inb i t)) fullShare Z) : sProp 𝕄)
      ⊢ wp frame (wpE defs 𝒱 (thr d i) bd) Set.univ (chunk i tbl ixs out raw hraw idx rows acc hacc gsem csem osem t v) fun _ =>
          iprop(Idle d i J T tbl ixs raw idx rows acc gsem csem osem ι q O W
            ∗ owns (thr d i) (outAt out (k0_off26 i t) (k0_off26_inb i t)) fullShare (fun j => outVal J T ((outRect i t).emb j))) := by
  unfold chunk
  iintro ⟨HI, #Hmw, Hout⟩
  iapply (wp_fetch EC 𝒱 bd d i J T hix tbl ixs raw hraw idx rows acc gsem csem osem ι q O W (512 * chunkNo i t) (by omega) (k0_off1 i t) (k0_off1_inb i t) (off1_eq i t)) $$ [HI]
  · isplitl [HI]; · iexact HI
    iexact Hmw
  unfold Ready
  iintro ⟨Ht, Hi, Hraw, Hidx, Hrows, ⟨%Xa, Hacc⟩, Hg, Hc, Hos, HO⟩
  iapply (Scf.wp_for_bind frame (wpE defs 𝒱 (thr d i) bd) Set.univ _ _ _ _ _ _ (fun n _ => FrameInv (F := F) (Ix := Ix) (Name := Name) (U := U) (Lvl := Lvl) d i J T (512 * chunkNo i t) rows acc n)
    (fun t' v' => wp_frameSum 𝒱 bd d i J T (512 * chunkNo i t) rows acc t' v')) $$ [Hrows Hacc]
  · unfold FrameInv Summed
    isplitl [Hrows]; · iexact Hrows
    iexists Xa
    isplitr
    · ipureintro
      intro y hy
      rcases hy with hy | ⟨-, hy⟩
      · exact absurd hy (Nat.not_lt_zero _)
      · exact absurd hy (Nat.not_lt_zero _)
    · iexact Hacc
  iintro %v' HF
  have htr : Scf.trips k0_t2_loop.lb k0_t2_loop.ub k0_t2_loop.st = 64 := trips2
  rw [htr]
  unfold FrameInv
  icases HF with ⟨Hrows, Hacc⟩
  ihave Hacc := (summed_all d i J T (512 * chunkNo i t) acc) $$ Hacc
  unfold putOut
  iapply (wp_copyStart EC 𝒱 (thr d i) bd ι _ rfl (View.dmaCredit_pos _ (by decide)) fullShare _ Z) $$ [Hacc Hout Hos]
  · isplitl [Hacc]; · iexact Hacc
    isplitl [Hout]; · iexact Hout
    iexact Hos
  iintro Hfl
  iapply (wp_copyWait EC 𝒱 (thr d i) bd ι rfl) $$ [Hfl HO]
  · isplitl [Hfl]; · iexact Hfl
    isplitl [HO]; · iexact HO
    iexact Hmw
  iintro ⟨⟨Hout, Hacc⟩, Hos, HO⟩
  rw [wp_ret]
  imodintro
  isplitr [Hout]
  · unfold Idle
    isplitl [Ht]; · iexact Ht
    isplitl [Hi]; · iexact Hi
    isplitl [Hraw]; · iexact Hraw
    isplitl [Hidx]; · iexact Hidx
    isplitl [Hrows]; · iexists _; iexact Hrows
    isplitl [Hacc]; · iexists _; iexact Hacc
    isplitl [Hg]; · iexact Hg
    isplitl [Hc]; · iexact Hc
    isplitl [Hos]; · iexact Hos
    iexact HO
  · rw [accVal_out]
    iexact Hout

/-- Chunk `t`'s rows of the result when the first `n` chunks are done. -/
def Part (n : ℕ) (t : Fin k0_t1_loop.trips) : sProp 𝕄 :=
  if t.val < n then owns (thr d i) (outAt out (k0_off26 i t) (k0_off26_inb i t)) fullShare (fun j => outVal J T ((outRect i t).emb j))
  else iprop(∃ Z, owns (thr d i) (outAt out (k0_off26 i t) (k0_off26_inb i t)) fullShare Z)

/-- Doing one more chunk changes that chunk's rows only. -/
theorem part_rest (t : Fin k0_t1_loop.trips) :
    bigSep (Finset.univ.erase t) (Part (Ix := Ix) (Name := Name) (U := U) (Lvl := Lvl) d i J T out t.val) = bigSep (Finset.univ.erase t) (Part d i J T out (t.val + 1)) := by
  refine BI.bigSep_congr fun t' ht' => ?_
  have hne : t'.val ≠ t.val := fun e => (Finset.mem_erase.mp ht').1 (Fin.ext e)
  unfold Part
  by_cases h : t'.val < t.val
  · rw [if_pos h, if_pos (by omega)]
  · rw [if_neg h, if_neg (by omega)]

/-- The state of the chunk loop before chunk `n`. -/
def ChunkInv (n : ℕ) : sProp 𝕄 :=
  iprop((Idle d i J T tbl ixs raw idx rows acc gsem csem osem ι q O W ∗ MayWaits (thr d i) ι O) ∗ bigSep Finset.univ (Part d i J T out n))

include EC hix in
theorem wp_chunkStep (t : Fin k0_t1_loop.trips) (v : BitVec 32) :
    (ChunkInv d i J T tbl ixs out raw idx rows acc gsem csem osem ι q O W t.val : sProp 𝕄)
      ⊢ wp frame (wpE defs 𝒱 (thr d i) bd) Set.univ (chunk i tbl ixs out raw hraw idx rows acc hacc gsem csem osem t v) fun _ =>
          ChunkInv d i J T tbl ixs out raw idx rows acc gsem csem osem ι q O W (t.val + 1) := by
  unfold ChunkInv
  rw [SparseCore.bigSep_erase' (Finset.mem_univ t), SparseCore.bigSep_erase' (Finset.mem_univ t), part_rest]
  have h0 : Part (Ix := Ix) (Name := Name) (U := U) (Lvl := Lvl) d i J T out t.val t = iprop(∃ Z, owns (thr d i) (outAt out (k0_off26 i t) (k0_off26_inb i t)) fullShare Z) :=
    if_neg (Nat.lt_irrefl _)
  have h1 : Part (Ix := Ix) (Name := Name) (U := U) (Lvl := Lvl) d i J T out (t.val + 1) t
      = owns (thr d i) (outAt out (k0_off26 i t) (k0_off26_inb i t)) fullShare (fun j => outVal J T ((outRect i t).emb j)) := if_pos (Nat.lt_succ_self _)
  rw [h0, h1]
  iintro ⟨⟨HI, #Hmw⟩, ⟨%Z, Hout⟩, Hrest⟩
  iapply (wp_wand_r frame (wpE defs 𝒱 (thr d i) bd) Set.univ)
  isplitl [HI Hout]
  · iapply (wp_chunk EC 𝒱 bd d i J T hix tbl ixs out raw hraw idx rows acc hacc gsem csem osem ι q O W t v Z)
    isplitl [HI]; · iexact HI
    isplitr [Hout]; · iexact Hmw
    iexact Hout
  · iintro %v' ⟨HI, Hout⟩
    isplitl [HI]
    · isplitl [HI]; · iexact HI
      iexact Hmw
    isplitl [Hout]; · iexact Hout
    iexact Hrest

include EC hix in
/-- The tile's program: every chunk's rows of the result hold what the whole result holds there. -/
theorem wp_body (X : S131072x128.Idx → Elt F .f32) :
    (iprop(Idle d i J T tbl ixs raw idx rows acc gsem csem osem ι q O W ∗ MayWaits (thr d i) ι O
        ∗ bigSep Finset.univ fun t : Fin k0_t1_loop.trips => owns (thr d i) (outAt out (k0_off26 i t) (k0_off26_inb i t)) fullShare (fun j => X ((outRect i t).emb j))) : sProp 𝕄)
      ⊢ wp frame (wpE defs 𝒱 (thr d i) bd) Set.univ (body i tbl ixs out raw hraw idx rows acc hacc gsem csem osem) fun _ =>
          iprop(Idle d i J T tbl ixs raw idx rows acc gsem csem osem ι q O W
            ∗ bigSep Finset.univ fun t : Fin k0_t1_loop.trips => owns (thr d i) (outAt out (k0_off26 i t) (k0_off26_inb i t)) fullShare (fun j => outVal J T ((outRect i t).emb j))) := by
  have hstart : (bigSep Finset.univ fun t : Fin k0_t1_loop.trips => owns (thr d i) (outAt out (k0_off26 i t) (k0_off26_inb i t)) fullShare (fun j => X ((outRect i t).emb j)))
      ⊢ (bigSep Finset.univ (Part d i J T out 0) : sProp 𝕄) := by
    refine BI.bigSep_mono fun t _ => ?_
    rw [show Part (Ix := Ix) (Name := Name) (U := U) (Lvl := Lvl) d i J T out 0 t = iprop(∃ Z, owns (thr d i) (outAt out (k0_off26 i t) (k0_off26_inb i t)) fullShare Z) from
      if_neg (Nat.not_lt_zero _)]
    have h : (owns (thr d i) (outAt out (k0_off26 i t) (k0_off26_inb i t)) fullShare (fun j => X ((outRect i t).emb j)) : sProp 𝕄)
        ⊢ iprop(∃ Z, owns (thr d i) (outAt out (k0_off26 i t) (k0_off26_inb i t)) fullShare Z) := by
      iintro H
      iexists _
      iexact H
    exact h
  have hend : (bigSep Finset.univ (Part d i J T out 64) : sProp 𝕄)
      = bigSep Finset.univ fun t : Fin k0_t1_loop.trips => owns (thr d i) (outAt out (k0_off26 i t) (k0_off26_inb i t)) fullShare (fun j => outVal J T ((outRect i t).emb j)) :=
    BI.bigSep_congr fun t _ => if_pos (lt_of_lt_of_eq t.isLt trips1)
  unfold body
  iintro ⟨HI, Hmw, Hout⟩
  ihave Hout := hstart $$ Hout
  iapply (Scf.wp_for_bind frame (wpE defs 𝒱 (thr d i) bd) Set.univ _ _ _ _ _ _ (fun n _ => ChunkInv d i J T tbl ixs out raw idx rows acc gsem csem osem ι q O W n)
    (fun t v => wp_chunkStep EC 𝒱 bd d i J T hix tbl ixs out raw hraw idx rows acc hacc gsem csem osem ι q O W t v)) $$ [HI Hmw Hout]
  · unfold ChunkInv
    isplitr [Hout]
    · isplitl [HI]; · iexact HI
      iexact Hmw
    · iexact Hout
  iintro %v HF
  have htr : Scf.trips k0_t1_loop.lb k0_t1_loop.ub k0_t1_loop.st = 64 := trips1
  rw [htr]
  unfold ChunkInv
  icases HF with ⟨⟨HI, -⟩, Hout⟩
  ihave Hout := (Entails.of_eq hend) $$ Hout
  rw [wp_ret]
  imodintro
  isplitl [HI]; · iexact HI
  iexact Hout

end Cert.Chunk
-- ==== Proof.Split.lean ====
module

public import proofs.«01_k».proof.Proof.TileRun

/-! The three arrays of the call divided among the tiles: each tile a share of the table and of the index array, and
    its own chunks of the result. -/

@[expose] public section

set_option synthInstance.maxSize 4096

noncomputable section

namespace Cert.Split

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Tile Cert.Values Cert.Access Cert.Strips Cert.Chunk

variable {F : FTy → Type} [FloatOps F] [∀ e, Nonempty (Elt F e)] {Ix : Type} [DecidableEq Ix] {Name : Type} [DecidableEq Name]
variable {U : Type} [URA U] {Lvl : Type} [Preorder Lvl]

local notation "𝕄" => MT nD τ sig Ix (Elt F) Name U Lvl

/-- The flat table, the flat index array and the result, as the tiles name them. -/
abbrev tblV : Memref sig .scVector .hbm S8192x128 .f32 := Memref.whole main_v0_scv
abbrev ixsV : Memref sig .scVector .hbm S1048576 .i32 := Memref.whole main_v1_scv
abbrev outV : Memref sig .scVector .hbm S131072x128 .f32 := Memref.whole main_v2_scv

/-- The grid coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem tiles_pos : 0 < grid0.bound 0 * grid0.bound 1 := by decide

/-- A tile's share of what every tile reads. -/
def part (i : grid0.Coords) : PosShare TreeShare :=
  pieceOf fullShare (grid0.bound 0 * grid0.bound 1) tiles_pos (finProdFinEquiv (i 0, i 1))

variable (d : Dev nD) (J : ℕ → BitVec 32) (T : ℕ → ℕ → F .f32)

/-- What a tile is given, the result at `X`. -/
def Given (i : grid0.Coords) (X : S131072x128.Idx → Elt F .f32) : sProp 𝕄 :=
  iprop(owns (thr d i) tblV (part i) (tblVal T) ∗ owns (thr d i) ixsV (part i) (ixsVal (F := F) J)
    ∗ bigSep Finset.univ fun t : Fin k0_t1_loop.trips => owns (thr d i) (outAt outV (k0_off26 i t) (k0_off26_inb i t)) fullShare (fun j => X ((outRect i t).emb j)))

instance given_storable (i : grid0.Coords) (X : S131072x128.Idx → Elt F .f32) : Storable (upEmb : UEmb _ 𝕄) (Given d J T i X) := by
  unfold Given
  infer_instance

/-- The tile through which the arrays are named before they are divided. -/
abbrev home : grid0.Coords := coordsV ⟨0, by decide⟩ ⟨0, by decide⟩

/-- What every tile reads, divided into the tiles' shares. -/
theorem read_split {s : Shape} {e : EltTy} (m : Memref sig .scVector .hbm s e) (X : s.Idx → Elt F e)
    (hm : ∀ i q, (owns (thr d home) m q X : sProp 𝕄) = owns (thr d i) m q X) :
    (owns (thr d home) m fullShare X : sProp 𝕄)
      = bigSep Finset.univ fun c => bigSep Finset.univ fun s => owns (thr d (coordsV c s)) m (part (coordsV c s)) X := by
  rw [owns_pieces (thr d home) m fullShare tiles_pos X, BI.bigSep_univ_equiv finProdFinEquiv, BI.bigSep_univ_prod]
  exact BI.bigSep_congr fun c _ => BI.bigSep_congr fun s _ => hm (coordsV c s) _

/-- The chunks of all tiles, by core, subcore and number. -/
abbrev Chunks : Type := Fin (grid0.bound 0) × Fin (grid0.bound 1) × Fin k0_t1_loop.trips
abbrev at_ (p : Chunks) : grid0.Coords := coordsV p.1 p.2.1
abbrev num (p : Chunks) : ℕ := chunkNo (at_ p) p.2.2

theorem num_injective : Function.Injective num := by
  rintro ⟨c, s, t⟩ ⟨c', s', t'⟩ h
  have hc : c.val < 2 := c.isLt
  have hc' : c'.val < 2 := c'.isLt
  have ht : t.val < 64 := lt_of_lt_of_eq t.isLt trips1
  have ht' : t'.val < 64 := lt_of_lt_of_eq t'.isLt trips1
  change 128 * s.val + 64 * c.val + t.val = 128 * s'.val + 64 * c'.val + t'.val at h
  have e1 : c = c' := Fin.ext (by omega)
  have e2 : s = s' := Fin.ext (by omega)
  have e3 : t = t' := Fin.ext (by omega)
  rw [e1, e2, e3]

theorem num_surjective (n : ℕ) (h : 64 * n < 131072) : ∃ p, num p = n := by
  refine ⟨⟨⟨n / 64 % 2, Nat.mod_lt _ (by decide)⟩, ⟨n / 128, ?_⟩, ⟨n % 64, ?_⟩⟩, ?_⟩
  · change n / 128 < 16
    omega
  · exact lt_of_lt_of_eq (Nat.mod_lt _ (by decide)) trips1.symm
  · change 128 * (n / 128) + 64 * (n / 64 % 2) + n % 64 = n
    omega

theorem out_disjoint (p p' : Chunks) (h : p ≠ p') : Disjoint (outRect (at_ p) p.2.2).set (outRect (at_ p') p'.2.2).set :=
  blocks_disjoint (fun p : Chunks => k0_off26 (at_ p) p.2.2) (fun p => k0_off26_inb (at_ p) p.2.2) num (fun p => off26_eq (at_ p) p.2.2) num_injective p p' h

theorem out_cover : Finset.univ.biUnion (fun p : Chunks => (outRect (at_ p) p.2.2).set) = Finset.univ :=
  blocks_cover (fun p : Chunks => k0_off26 (at_ p) p.2.2) (fun p => k0_off26_inb (at_ p) p.2.2) num (fun p => off26_eq (at_ p) p.2.2) (by decide)
    (fun p => off26_one (at_ p) p.2.2) num_surjective

/-- The result's chunks of all tiles. -/
abbrev OutChunks (X : S131072x128.Idx → Elt F .f32) : sProp 𝕄 :=
  bigSep Finset.univ fun c => bigSep Finset.univ fun s => bigSep Finset.univ fun t : Fin k0_t1_loop.trips =>
    owns (thr d (coordsV c s)) (outAt outV (k0_off26 (coordsV c s) t) (k0_off26_inb (coordsV c s) t)) fullShare (fun j => X ((outRect (coordsV c s) t).emb j))

theorem outChunks_eq (X : S131072x128.Idx → Elt F .f32) :
    (OutChunks d X : sProp 𝕄)
      = bigSep Finset.univ fun p : Chunks => owns (thr d home) (outV.slice (outRect (at_ p) p.2.2) (fun _ => rfl)) fullShare (fun j => X ((outRect (at_ p) p.2.2).emb j)) := by
  rw [BI.bigSep_univ_prod]
  refine BI.bigSep_congr fun c _ => ?_
  rw [BI.bigSep_univ_prod]
  rfl

theorem out_split (X : S131072x128.Idx → Elt F .f32) : (owns (thr d home) outV fullShare X : sProp 𝕄) ⊢ OutChunks d X := by
  rw [outChunks_eq]
  exact owns_rects (thr d home) outV fullShare _ _ out_disjoint out_cover X

theorem out_join (X : S131072x128.Idx → Elt F .f32) : (OutChunks d X : sProp 𝕄) ⊢ owns (thr d home) outV fullShare X := by
  rw [outChunks_eq]
  exact owns_of_rects (thr d home) outV fullShare _ _ out_disjoint out_cover X

theorem given_eq (X : S131072x128.Idx → Elt F .f32) :
    (bigSep Finset.univ fun c => bigSep Finset.univ fun s => Given d J T (coordsV c s) X : sProp 𝕄)
      = iprop(owns (thr d home) tblV fullShare (tblVal T) ∗ owns (thr d home) ixsV fullShare (ixsVal (F := F) J) ∗ OutChunks d X) := by
  rw [read_split d tblV (tblVal T) (fun _ _ => rfl), read_split d ixsV (ixsVal (F := F) J) (fun _ _ => rfl)]
  unfold Given OutChunks
  simp only [BI.bigSep_sep']

/-- The arrays divided among the tiles, -/
theorem given_split (X : S131072x128.Idx → Elt F .f32) :
    (iprop(owns (thr d home) tblV fullShare (tblVal T) ∗ owns (thr d home) ixsV fullShare (ixsVal (F := F) J) ∗ owns (thr d home) outV fullShare X) : sProp 𝕄)
      ⊢ bigSep Finset.univ fun c => bigSep Finset.univ fun s => Given d J T (coordsV c s) X := by
  rw [given_eq]
  iintro ⟨Ht, Hi, Ho⟩
  isplitl [Ht]; · iexact Ht
  isplitl [Hi]; · iexact Hi
  iapply (out_split d X) $$ Ho

/-- and put together again. -/
theorem given_join (X : S131072x128.Idx → Elt F .f32) :
    (bigSep Finset.univ fun c => bigSep Finset.univ fun s => Given d J T (coordsV c s) X : sProp 𝕄)
      ⊢ iprop(owns (thr d home) tblV fullShare (tblVal T) ∗ owns (thr d home) ixsV fullShare (ixsVal (F := F) J) ∗ owns (thr d home) outV fullShare X) := by
  rw [given_eq]
  iintro ⟨Ht, Hi, Ho⟩
  isplitl [Ht]; · iexact Ht
  isplitl [Hi]; · iexact Hi
  iapply (out_join d X) $$ Ho

end Cert.Split
-- ==== Proof.BodyEq.lean ====
module

public import proofs.«01_k».proof.Proof.Body

/-! The printed body is the pieces put together. -/

@[expose] public section

set_option synthInstance.maxSize 4096

noncomputable section

namespace Cert.Tile

open Idealize.ShloMosaic Idealize.SL.Sem
open Cert.KernelIdeal Cert.KernelIdeal.Gen

variable {F : FTy → Type} [FloatOps F]

section Whole

variable (i : grid0.Coords)
  (arg2 : Memref sig .scVector .hbm S8192x128 .f32) (harg2 : arg2.IsWhole) (arg3 : Memref sig .scVector .hbm S1048576 .i32) (harg3 : arg3.IsWhole)
  (arg4 : Memref sig .scVector .hbm S131072x128 .f32) (harg4 : arg4.IsWhole)
  (arg5 : Memref sig .scVector .vmem S512 .i32) (harg5 : arg5.IsWhole) (arg6 : Memref sig .scVector .vmem S4x128 .i32) (harg6 : arg6.IsWhole)
  (arg7 : Memref sig .scVector .vmem S512x128 .f32) (harg7 : arg7.IsWhole) (arg8 : Memref sig .scVector .vmem S64x128 .f32) (harg8 : arg8.IsWhole)
  (arg9 r0 r1 : DmaSems sig S_)

set_option maxRecDepth 65536 in
/-- A frame, as printed. -/
theorem frameSum_eq :
    k0_t2_body (F := F) i arg2 harg2 arg3 harg3 arg4 harg4 arg5 harg5 arg6 harg6 arg7 harg7 arg8 harg8 arg9 r0 r1
      = frameSum (i := i) arg7 arg8 := by
  funext t v
  rfl

set_option maxRecDepth 65536 in
/-- A chunk, as printed. -/
theorem chunk_eq (v1 : BitVec 32) :
    k0_t1_body (F := F) i arg2 harg2 arg3 harg3 arg4 harg4 arg5 harg5 arg6 harg6 arg7 harg7 arg8 harg8 arg9 r0 r1 v1
      = chunk (F := F) i arg2 arg3 arg4 arg5 harg5 arg6 arg7 arg8 harg8 arg9 r0 r1 := by
  funext t v
  unfold k0_t1_body chunk
  rw [frameSum_eq]
  rfl

set_option maxRecDepth 65536 in
/-- The tile's program, as printed. -/
theorem body_eq :
    cc0__body (F := F) i arg2 harg2 arg3 harg3 arg4 harg4 arg5 harg5 arg6 harg6 arg7 harg7 arg8 harg8 arg9 r0 r1
      = body (F := F) i arg2 arg3 arg4 arg5 harg5 arg6 arg7 arg8 harg8 arg9 r0 r1 := by
  rw [cc0__body_eq_skeleton]
  unfold body
  rw [← chunk_eq i arg2 harg2 arg3 harg3 arg4 harg4 arg5 harg5 arg6 harg6 arg7 harg7 arg8 harg8 arg9 r0 r1 (Scalar.addi (Scalar.muli (BitVec.ofNat 32 (i 1).val) 2#32) (BitVec.ofNat 32 (i 0).val))]
  rfl

end Whole

end Cert.Tile
-- ==== Proof.Launch.lean ====
module

public import proofs.«01_k».proof.Proof.Split
public import proofs.«01_k».proof.Proof.BodyEq
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

/-! The whole program's run: the table and the index array flattened, the one call on every tile of both cores, and the
    result at what the tiles computed. -/

@[expose] public section

set_option synthInstance.maxSize 4096

noncomputable section

namespace Cert.Launch

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Values Cert.Access Cert.Chunk Cert.Split

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev wLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- The flat table and the flat index array, as the first two steps leave them. -/
def flatTbl (d : Dev nD) : S8192x128.Idx → Elt F .f32 := shapeCast S8192x128 (m (bLoc d)) shapeCasts_S8x1024x128_S8192x128
def flatIxs (d : Dev nD) : S1048576.Idx → Elt F .i32 := shapeCast S1048576 (m (wLoc d)) shapeCasts_S131072x8_S1048576

/-- The index of a matrix at row `a`, column `b`. -/
def two {r c : ℕ} (a : Fin r) (b : Fin c) : (⟨2, ![r, c]⟩ : Shape).Idx := fun | ⟨0, _⟩ => a | ⟨1, _⟩ => b

/-- The index words by position, and the table by row and column. -/
def Jm (d : Dev nD) (n : ℕ) : BitVec 32 := flatIxs m d (one ⟨n % 1048576, Nat.mod_lt _ (by decide)⟩)
def Tm (d : Dev nD) (r c : ℕ) : F .f32 := flatTbl m d (two ⟨r % 8192, Nat.mod_lt _ (by decide)⟩ ⟨c % 128, Nat.mod_lt _ (by decide)⟩)

theorem flatIxs_eq (d : Dev nD) : (ixsVal (F := F) (Jm m d)) = flatIxs m d := by
  funext y
  refine congrArg (flatIxs m d) (funext fun a => ?_)
  match a with
  | ⟨0, _⟩ => exact Fin.ext (Nat.mod_eq_of_lt (y 0).isLt)

theorem flatTbl_eq (d : Dev nD) : tblVal (Tm m d) = flatTbl m d := by
  funext y
  refine congrArg (flatTbl m d) (funext fun a => ?_)
  match a with
  | ⟨0, _⟩ => exact Fin.ext (Nat.mod_eq_of_lt (y 0).isLt)
  | ⟨1, _⟩ => exact Fin.ext (Nat.mod_eq_of_lt (y 1).isLt)

/-- What the proof asks of the launch memory: every index word names a row of its codebook. -/
def PreOK : Prop := ∀ (d : Dev nD) (y : S131072x8.Idx), (m (wLoc d) y).toNat < 1024

theorem word_lt (h : PreOK m) (d : Dev nD) (n : ℕ) : (word (Jm m d) n).toNat < 8192 := by
  have hJ : (Jm m d n).toNat < 1024 := h d _
  have hm : n % 8 < 8 := Nat.mod_lt _ (by decide)
  unfold word
  rw [BitVec.toNat_add, BitVec.toNat_ofNat]
  omega

variable [FloatOps F] [∀ e, Nonempty (Elt F e)]

/-- The result. -/
def result (d : Dev nD) : S131072x128.Idx → Elt F .f32 := outVal (Jm m d) (Tm m d)

/-! ## What the handshakes carry -/

/-- A SparseCore, and a subcore of one, as grid coordinates. -/
abbrev gC (c : Fin τ.nSC) : Fin (grid0.bound 0) := Fin.cast rfl c
abbrev gS (s : Fin τ.nSub) : Fin (grid0.bound 1) := Fin.cast rfl s

/-- What a tile takes, and what it brings back. -/
abbrev goes (d : Dev nD) (L : grid0.Coords) : sProp 𝕄 := Given d (Jm m d) (Tm m d) L (m (oLoc d))
abbrev back (d : Dev nD) (L : grid0.Coords) : sProp 𝕄 := Given d (Jm m d) (Tm m d) L (result m d)

/-- What a core takes, and what it brings back: what its tiles do. -/
def coreGoes (d : Dev nD) (c : Fin (grid0.bound 0)) : sProp 𝕄 := bigSep Finset.univ fun s => goes m d (coordsV c s)
def coreBack (d : Dev nD) (c : Fin (grid0.bound 0)) : sProp 𝕄 := bigSep Finset.univ fun s => back m d (coordsV c s)

instance coreGoes_storable (d : Dev nD) (c : Fin (grid0.bound 0)) : BI.Storable (upEmb : UEmb _ 𝕄) (coreGoes m d c) := by
  unfold coreGoes
  infer_instance
instance coreBack_storable (d : Dev nD) (c : Fin (grid0.bound 0)) : BI.Storable (upEmb : UEmb _ 𝕄) (coreBack m d c) := by
  unfold coreBack
  infer_instance

def P : (K (F := F)).Pay (nD := nD) (Val := Elt F) (Name := ℕ) (U := UU) where
  st := fun q d c => coreGoes m d (gC ((K (F := F)).core q c))
  dn := fun q d c => coreBack m d (gC ((K (F := F)).core q c))
  go := fun q d c i => goes m d (coordsV (gC ((K (F := F)).core q c)) (gS ((K (F := F)).sub q i)))
  td := fun q d c i => back m d (coordsV (gC ((K (F := F)).core q c)) (gS ((K (F := F)).sub q i)))
  x := fun _ _ => iprop(emp)

instance P_storable : (P (F := F) m).IsStorable where
  st q d c := coreGoes_storable m d (gC ((K (F := F)).core q c))
  dn q d c := coreBack_storable m d (gC ((K (F := F)).core q c))
  go q d c i := given_storable d (Jm m d) (Tm m d) (coordsV (gC ((K (F := F)).core q c)) (gS ((K (F := F)).sub q i))) _
  td q d c i := given_storable d (Jm m d) (Tm m d) (coordsV (gC ((K (F := F)).core q c)) (gS ((K (F := F)).sub q i))) _

/-! ## The tile -/

section Tile

variable (d : Dev nD) (L : grid0.Coords)

abbrev cV (L : grid0.Coords) : Fin τ.nSC := (L 0).castLE hcore0
abbrev jV (L : grid0.Coords) : Fin τ.nSub := (L 1).castLE hsub0

abbrev rawV : Memref sig .scVector .vmem S512 .i32 := Memref.whole cc0_scratch0
abbrev idxV : Memref sig .scVector .vmem S4x128 .i32 := Memref.whole cc0_scratch1
abbrev rowsV : Memref sig .scVector .vmem S512x128 .f32 := Memref.whole cc0_scratch2
abbrev accV : Memref sig .scVector .vmem S64x128 .f32 := Memref.whole cc0_scratch3

abbrev cell (s : DmaSems sig S_) (d : Dev nD) (L : grid0.Coords) : GSem nD τ sig := (V d (cV L) (jV L), .dma s.sem)

omit [FloatOps F] [∀ e, Nonempty (Elt F e)] in
/-- The body's three semaphores are among the subcore's own. -/
theorem ownSems0_V :
    (ownSems0 (V d (cV L) (jV L)) : sProp 𝕄)
      = iprop(semVal (cell cc0_scratch4 d L) 0 ∗ semVal (cell cc0_scoped0 d L) 0 ∗ semVal (cell cc0_scoped1 d L) 0
          ∗ bigSep ((((ownCells (V d (cV L) (jV L))).erase (cell cc0_scratch4 d L)).erase (cell cc0_scoped0 d L)).erase (cell cc0_scoped1 d L)) fun g => semVal g 0) := by
  unfold SparseCore.Cfg.ownSems0
  rw [SparseCore.bigSep_erase' ((mem_ownCells (g := cell cc0_scratch4 d L)).mpr ⟨rfl, by
      show (SemLoc.dma cc0_scratch4.sem : SemLoc sig).isScoped .scVector = true; decide⟩),
    SparseCore.bigSep_erase' (Finset.mem_erase.mpr ⟨by simp [cell]; decide, (mem_ownCells (g := cell cc0_scoped0 d L)).mpr ⟨rfl, by
      show (SemLoc.dma cc0_scoped0.sem : SemLoc sig).isScoped .scVector = true; decide⟩⟩),
    SparseCore.bigSep_erase' (Finset.mem_erase.mpr ⟨by simp [cell]; decide, Finset.mem_erase.mpr ⟨by simp [cell]; decide,
      (mem_ownCells (g := cell cc0_scoped1 d L)).mpr ⟨rfl, by show (SemLoc.dma cc0_scoped1.sem : SemLoc sig).isScoped .scVector = true; decide⟩⟩⟩)]

abbrev own (L : grid0.Coords) (b : Ref sig .scVector) : DevRef τ sig := (Proc.scVector (cV L) (jV L)).devRef b

theorem own_ne {b b' : Ref sig .scVector} (h : b ≠ b') : own L b ≠ own L b' := fun e => h (Proc.devRef_injective _ e)

omit [FloatOps F] [∀ e, Nonempty (Elt F e)] in
/-- The four scratch arrays are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase (own L cc0_scratch2)).erase (own L cc0_scratch3))
              fun b => iprop(∃ f, ((d, b) : Loc nD τ sig) ↦{fullShare} f)) := by
  have hmem (b : Ref sig .scVector) (h : (own L b).owner = _) : own L b ∈ ownRefs (τ := τ) (.scVector (cV L) (jV L)) :=
    SparseCore.Cfg.mem_ownRefs_of_owner (p := Proc.scVector (cV L) (jV L)) h
  unfold SparseCore.Cfg.ownBufs
  refine (SparseCore.bigSep_erase' (hmem cc0_scratch0 rfl)).trans ?_
  rw [SparseCore.bigSep_erase' (Finset.mem_erase.mpr ⟨own_ne L (b := cc0_scratch1) (b' := cc0_scratch0) (by decide), hmem cc0_scratch1 rfl⟩),
    SparseCore.bigSep_erase' (Finset.mem_erase.mpr ⟨own_ne L (b := cc0_scratch2) (b' := cc0_scratch1) (by decide),
      Finset.mem_erase.mpr ⟨own_ne L (b := cc0_scratch2) (b' := cc0_scratch0) (by decide), hmem cc0_scratch2 rfl⟩⟩),
    SparseCore.bigSep_erase' (Finset.mem_erase.mpr ⟨own_ne L (b := cc0_scratch3) (b' := cc0_scratch2) (by decide),
      Finset.mem_erase.mpr ⟨own_ne L (b := cc0_scratch3) (b' := cc0_scratch1) (by decide),
        Finset.mem_erase.mpr ⟨own_ne L (b := cc0_scratch3) (b' := cc0_scratch0) (by decide), hmem cc0_scratch3 rfl⟩⟩⟩)]

omit [FloatOps F] [∀ e, Nonempty (Elt F e)] in
/-- A scratch array at some contents, as a memref. -/
theorem scratch_owns (b : Ref sig .scVector) :
    (iprop(∃ f, (V d (cV L) (jV L)).loc b ↦{fullShare} f) : sProp 𝕄) = iprop(∃ X, owns (thr d L) (Memref.whole b) fullShare X) :=
  congrArg BIBase.exists (funext fun f => (owns_whole (thr d L) b fullShare f).symm)

/-- The tile's run, from its part of the operands to its part of the result. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L tblV (Memref.isWhole_whole _) ixsV (Memref.isWhole_whole _) outV (Memref.isWhole_whole _) rawV (Memref.isWhole_whole _)
            idxV (Memref.isWhole_whole _) rowsV (Memref.isWhole_whole _) accV (Memref.isWhole_whole _) cc0_scratch4 cc0_scoped0 cc0_scoped1)
          fun _ => iprop(back m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [Cert.Tile.body_eq, (K (F := F)).scopedBufs_V hF d (cV L) (jV L), SparseCore.Cfg.scopedSems0_V (Val := Elt F) d (cV L) (jV L), ownSems0_V, ownBufs_V,
    scratch_owns d L cc0_scratch0, scratch_owns d L cc0_scratch1, scratch_owns d L cc0_scratch2, scratch_owns d L cc0_scratch3]
  unfold goes back Given
  iintro ⟨#Hlv, -, ⟨Ht, Hi, Ho⟩, ⟨H0, H1, H2, H3, Hbufs⟩, ⟨Hg, Hc, Hs, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HO := (owed_intro (thr d L) (default : HIx 1) O W) $$ HO
  iapply (wp_wand_r frame (wpE (defs₀ (F := F)) 𝒱₀ (V d (cV L) (jV L)) none) Set.univ)
  isplitr [Hbufs Hsems]
  · iapply (wp_body countersEmb 𝒱₀ none d L (Jm m d) (Tm m d) (word_lt m hpre d) tblV ixsV outV rawV (Memref.isWhole_whole _) idxV rowsV accV (Memref.isWhole_whole _)
      cc0_scratch4 cc0_scoped0 cc0_scoped1 (default : HIx 1) (part L) O W (m (oLoc d)))
    isplitr [Hmw Ho]
    · unfold Idle
      isplitl [Ht]; · iexact Ht
      isplitl [Hi]; · iexact Hi
      isplitl [H0]; · iexact H0
      isplitl [H1]; · iexact H1
      isplitl [H2]; · iexact H2
      isplitl [H3]; · iexact H3
      isplitl [Hg]; · iexact Hg
      isplitl [Hc]; · iexact Hc
      isplitl [Hs]; · iexact Hs
      iexact HO
    isplitl [Hmw]; · iexact Hmw
    iexact Ho
  iintro %v ⟨HI, Ho⟩
  unfold Idle Owed
  icases HI with ⟨Ht, Hi, H0, H1, H2, H3, Hg, Hc, Hs, HO⟩
  isplitl [Ht Hi Ho]
  · isplitl [Ht]; · iexact Ht
    isplitl [Hi]; · iexact Hi
    iexact Ho
  isplitl [H0 H1 H2 H3 Hbufs]
  · isplitl [H0]; · iexact H0
    isplitl [H1]; · iexact H1
    isplitl [H2]; · iexact H2
    isplitl [H3]; · iexact H3
    iexact Hbufs
  isplitl [Hg Hc Hs Hsems]
  · isplitl [Hg]; · iexact Hg
    isplitl [Hc]; · iexact Hc
    isplitl [Hs]; · iexact Hs
    iexact Hsems
  iexact HO

/-! ## The obligation -/

theorem defs₀_vector (c : Fin τ.nSC) (s : Fin τ.nSub) :
    defs₀ (F := F) (.scVector c s) 0 ()
      = SparseCore.onTile hcore0 hsub0 (fun c s => cc0__body (coordsV c s) tblV (Memref.isWhole_whole _) ixsV (Memref.isWhole_whole _) outV (Memref.isWhole_whole _)
          rawV (Memref.isWhole_whole _) idxV (Memref.isWhole_whole _) rowsV (Memref.isWhole_whole _) accV (Memref.isWhole_whole _) cc0_scratch4 cc0_scoped0 cc0_scoped1) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

omit [FloatOps F] [∀ e, Nonempty (Elt F e)] in
theorem bigSep_tasks (Φ : Fin (grid0.bound 1) → sProp 𝕄) :
    (bigSep Finset.univ fun i : Fin ((K (F := F)).nSub 0) => Φ (gS ((K (F := F)).sub 0 i))) = bigSep Finset.univ Φ :=
  bigSep_congr fun _ _ => congrArg Φ (Fin.ext rfl)

omit [FloatOps F] [∀ e, Nonempty (Elt F e)] in
theorem bigSep_cores (Φ : Fin (grid0.bound 0) → sProp 𝕄) :
    (bigSep Finset.univ fun c : Fin ((K (F := F)).nCore 0) => Φ (gC ((K (F := F)).core 0 c))) = bigSep Finset.univ Φ :=
  bigSep_congr fun _ _ => congrArg Φ (Fin.ext rfl)

theorem vecSplit : (K (F := F)).VecSplit' (P m) 0 := by
  intro d c
  show coreGoes m d (gC ((K (F := F)).core 0 c)) ⊢ |={Set.univ}=> iprop(
      (bigSep Finset.univ fun i : Fin ((K (F := F)).nSub 0) => goes m d (coordsV (gC ((K (F := F)).core 0 c)) (gS ((K (F := F)).sub 0 i))))
      ∗ ((bigSep Finset.univ fun i : Fin ((K (F := F)).nSub 0) => back m d (coordsV (gC ((K (F := F)).core 0 c)) (gS ((K (F := F)).sub 0 i))))
          -∗ coreBack m d (gC ((K (F := F)).core 0 c))))
  rw [bigSep_tasks (F := F) (fun i => goes m d (coordsV (gC ((K (F := F)).core 0 c)) i)), bigSep_tasks (F := F) (fun i => back m d (coordsV (gC ((K (F := F)).core 0 c)) i))]
  unfold coreGoes coreBack
  iintro H; imodintro
  isplitl [H]; · iexact H
  iintro H
  iexact H

/-! ## The launch element of the certificate's ghost state -/

def u₀ : UU := (initOf (K (F := F)).hsCells (K (F := F)).hsToks, 1)

omit [FloatOps F] [∀ e, Nonempty (Elt F e)] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The two flattening steps. -/
abbrev opT : HloOp τ sig (Elt F) := StableHlo.reshape main_arg1 main_v0 (rfl : (.f32 : EltTy) = .f32) shapeCasts_S8x1024x128_S8192x128
abbrev opI : HloOp τ sig (Elt F) := StableHlo.reshape main_arg0 main_v1 (rfl : (.i32 : EltTy) = .i32) shapeCasts_S131072x8_S1048576

abbrev w' : DevRef τ sig := Proc.devRef .tc main_arg0
abbrev b' : DevRef τ sig := Proc.devRef .tc main_arg1
abbrev t' : DevRef τ sig := Proc.devRef .tc main_v0
abbrev i' : DevRef τ sig := Proc.devRef .tc main_v1
abbrev o' : DevRef τ sig := Proc.devRef .tc main_v2
abbrev S5 : Finset (DevRef τ sig) := {w', b', t', i', o'}

omit [FloatOps F] [∀ e, Nonempty (Elt F e)] in
theorem held_S5 (d : Dev nD) (V : Valuation τ sig (Elt F)) :
    (held (SparseCore.T d) S5 V : sProp 𝕄)
      = iprop((wLoc d ↦{fullShare} V w') ∗ (bLoc d ↦{fullShare} V b') ∗ (tLoc d ↦{fullShare} V t') ∗ (iLoc d ↦{fullShare} V i') ∗ oLoc d ↦{fullShare} V o') := by
  unfold held
  rw [SparseCore.bigSep_insert' (by decide), SparseCore.bigSep_insert' (by decide), SparseCore.bigSep_insert' (by decide),
    SparseCore.bigSep_insert' (by decide), bigSep_singleton]

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop((wLoc d ↦{fullShare} W main_arg0) ∗ (bLoc d ↦{fullShare} W main_arg1) ∗ (tLoc d ↦{fullShare} W main_v0) ∗ (iLoc d ↦{fullShare} W main_v1)
          ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (SparseCore.T d) S5 (V0 m d) := by
  rw [unscopedBufs_eq, held_S5]; rfl

theorem hT : (opT (F := F)).bufs ⊆ S5 := show ({b', t'} : Finset (DevRef τ sig)) ⊆ S5 by decide
theorem hI : (opI (F := F)).bufs ⊆ S5 := show ({w', i'} : Finset (DevRef τ sig)) ⊆ S5 by decide

/-- The arrays before the call: the arguments as launched, the table and the index array flat. -/
theorem held_flat (d : Dev nD) :
    (held (SparseCore.T d) S5 ((opI (F := F)).result ((opT (F := F)).result (V0 m d))) : sProp 𝕄)
      = iprop((wLoc d ↦{fullShare} m (wLoc d)) ∗ (bLoc d ↦{fullShare} m (bLoc d)) ∗ owns (thr d home) tblV fullShare (tblVal (Tm m d))
          ∗ owns (thr d home) ixsV fullShare (ixsVal (F := F) (Jm m d)) ∗ owns (thr d home) outV fullShare (m (oLoc d))) := by
  have hn (X : Valuation τ sig (Elt F)) (r : DevRef τ sig) (h : r ∉ ({t'} : Finset (DevRef τ sig))) : (opT (F := F)).result X r = X r := (opT (F := F)).result_of_not_mem X h
  have hn' (X : Valuation τ sig (Elt F)) (r : DevRef τ sig) (h : r ∉ ({i'} : Finset (DevRef τ sig))) : (opI (F := F)).result X r = X r := (opI (F := F)).result_of_not_mem X h
  have ht : (opT (F := F)).result (V0 m d) t' = flatTbl m d := StableHlo.reshape_result _ _ _ _ _ _ _
  have hi : (opI (F := F)).result ((opT (F := F)).result (V0 m d)) i' = flatIxs m d := by
    refine (StableHlo.reshape_result _ _ _ _ _ _ _).trans ?_
    rw [hn _ w' (by decide)]
    rfl
  rw [held_S5, hi, hn' _ w' (by decide), hn' _ b' (by decide), hn' _ t' (by decide), hn' _ o' (by decide), ht, hn _ w' (by decide), hn _ b' (by decide), hn _ o' (by decide),
    flatIxs_eq, flatTbl_eq, owns_whole, owns_whole, owns_whole]
  rfl

theorem st0_eq (d : Dev nD) :
    (bigSep Finset.univ fun c : Fin ((K (F := F)).nCore 0) => (P m).st 0 d c) = bigSep Finset.univ fun c => bigSep Finset.univ fun s => goes m d (coordsV c s) :=
  bigSep_cores (coreGoes m d)
theorem dn0_eq (d : Dev nD) :
    (bigSep Finset.univ fun c : Fin ((K (F := F)).nCore 0) => (P m).dn 0 d c) = bigSep Finset.univ fun c => bigSep Finset.univ fun s => back m d (coordsV c s) :=
  bigSep_cores (coreBack m d)

/-- What @main leaves: the arguments as launched, and the result. -/
abbrev FIN (d : Dev nD) : sProp 𝕄 := iprop((wLoc d ↦{fullShare} m (wLoc d)) ∗ (bLoc d ↦{fullShare} m (bLoc d)) ∗ oLoc d ↦{fullShare} result m d)

/-- @main on device `d`'s TensorCore: the two flattening steps, and the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S5) hT (V := V0 m d)) $$ [Hb Hheld]
  · isplitl [Hb] <;> iassumption
  iintro ⟨Hb, Hheld⟩
  rw [wp_ret]; imodintro
  iapply (wp_hlo_within 𝒱 (SparseCore.T d) none Set.univ (op := opI) (S := S5) hI (V := (opT (F := F)).result (V0 m d))) $$ [Hb Hheld]
  · isplitl [Hb] <;> iassumption
  iintro ⟨Hb, Hheld⟩
  rw [wp_ret]; imodintro
  ihave Hh := (Entails.of_eq (held_flat m d)) $$ Hheld
  icases Hh with ⟨Hw, Hbk, Ht, Hi, Ho⟩
  iapply ((K (F := F)).wp_run (D (F := F)) 𝒱 (EH := EH) (P := P m) κ d 0) $$ [Hst Hw Hbk Ht Hi Ho Hb Hts]
  isplitr; · iexact Hctx
  isplitl [Hst]; · iexact Hst
  isplitl [Ht Hi Ho]
  · rw [st0_eq]
    iapply (given_split d (Jm m d) (Tm m d) (m (oLoc d)))
    isplitl [Ht]; · iexact Ht
    isplitl [Hi]; · iexact Hi
    iexact Ho
  iintro ⟨Hst, Hdn⟩
  ihave Hdn := (Entails.of_eq (dn0_eq m d)) $$ Hdn
  ihave Hdn := (given_join d (Jm m d) (Tm m d) (result m d)) $$ Hdn
  icases Hdn with ⟨-, -, Ho⟩
  ihave Ho := (Entails.of_eq (owns_whole (thr d home) main_v2_scv fullShare (result m d))) $$ Ho
  imodintro
  isplitl [Hst]; · iexact Hst
  isplitr [Hb Hts]
  · isplitl [Hw]; · iexact Hw
    isplitl [Hbk]; · iexact Hbk
    iexact Ho
  isplitl [Hb] <;> iassumption

/-- What the claims read of a device's final state. -/
def fq (d : Dev nD) (s' : Phys nD τ sig (Elt F)) : Prop :=
  s'.mem.mem (wLoc d) = m (wLoc d) ∧ s'.mem.mem (bLoc d) = m (bLoc d) ∧ s'.mem.mem (oLoc d) = result m d

set_option maxRecDepth 16384 in
theorem hfin (d : Dev nD) (s' : Phys nD τ sig (Elt F)) : iprop(FIN m d ∗ SI s') ⊢ (⌜fq m d s'⌝ : sProp 𝕄) := by
  iintro ⟨⟨Hw, Hb, Ho⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := result m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ d : Dev nD, r.2.mem (wLoc d) = m (wLoc d) ∧ r.2.mem (bLoc d) = m (bLoc d) ∧ r.2.mem (oLoc d) = result m d) ∧ r.2.sem = fun _ => 0

/-- Every run ends with the arguments as launched, the result at what the tiles computed, and every semaphore at zero. -/
theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Launch
-- ==== Proof.InRange.lean ====
module

public import proofs.«01_k».proof.Proof.Launch
public import proofs.«01_k».proof.Proof.Gen.Pre_in_range
public import Idealize.ShloMosaic.Lib.ReduceAll

/-! What the precondition says of the index words: each, unsigned, is below 1024. -/

@[expose] public section

noncomputable section

namespace Cert.InRange

open Idealize.ShloMosaic
open Cert.Pre_in_range

variable {F : FTy → Type} [FloatOps F]

/-- A word at least 0 and less than 1024, both signed, is below 1024. -/
theorem word_of_bits (v : BitVec 32) (e : IntOp.andi (IntOp.cmpi .sge v 0#32) (IntOp.cmpi .slt v 1024#32) = 1#1) : v.toNat < 1024 := by
  obtain ⟨e0, e1⟩ := IntOp.andi_eq_one.1 e
  have e0' := IntOp.cmpi_sge.1 e0
  have e1' := IntOp.cmpi_slt.1 e1
  have h0 : (0#32).toInt = 0 := by decide
  have h1 : (1024#32).toInt = 1024 := by decide
  rw [h0] at e0'
  rw [h1] at e1'
  rw [BitVec.toInt_eq_toNat_cond] at e0' e1'
  split at e0' <;> omega

/-- The precondition holds of an index array only if every word of it is below 1024. -/
theorem words (a : IVec S131072x8 32) (b : FVec F S8x1024x128 .f32) (e : fn (F := F) a b = fun _ => 1#1) (y : S131072x8.Idx) :
    (a y).toNat < 1024 := by
  have : Subsingleton S_.Idx := ⟨fun i j => funext fun x => x.elim0⟩
  exact word_of_bits _ (Host.reduce_andi_all _ _ _ _ _ (congrFun e fun x => x.elim0) y)

end Cert.InRange

end
-- ==== Proof.Reference.lean ====
module

public import proofs.«01_k».proof.Proof.Gen.ReferenceIdeal.Run
public import Idealize.ShloMosaic.Lib.ReduceAll
public import Idealize.ShloMosaic.Lib.Pointwise
public import Idealize.ShloMosaic.Lib.IdealHost

/-! What the reference computes at an index, when every index word is below 1024. -/

@[expose] public section

noncomputable section

namespace Cert.RefValue

open Idealize.ShloMosaic
open Cert.ReferenceIdeal Cert.ReferenceIdeal.Gen

/-- The lookup's dimension numbers. -/
abbrev dims : GatherDims S8x1024x128 S8x131072x1 S8x131072x128 := gather_S8x1024x128_S8x131072x1_S8x131072x128_2_1_0_0_1_2_11128

/-- The start indices' axes 0 and 1 are read at the result's axes 0 and 1. -/
theorem siCoord_zero (j : S8x131072x128.Idx) (h : 0 ∈ dims.siKept) : (dims.siCoord j 0 h).val = (j 0).val :=
  congrArg (fun X => (j X).val) ((List.getElem_eq_iff _).2 (by decide +kernel))
theorem siCoord_one (j : S8x131072x128.Idx) (h : 1 ∈ dims.siKept) : (dims.siCoord j 1 h).val = (j 1).val :=
  congrArg (fun X => (j X).val) ((List.getElem_eq_iff _).2 (by decide +kernel))

/-- The operand's axis 2 is read at the result's axis 2. -/
theorem offset_at (j : S8x131072x128.Idx) (h : dims.sKept.idxOf 2 < dims.offsetDims.length) : (j dims.offsetDims[dims.sKept.idxOf 2]).val = (j 2).val :=
  congrArg (fun X => (j X).val) ((List.getElem_eq_iff _).2 (by decide +kernel))

theorem siIdx_at (l : Fin 8) (r : Fin 131072) (c : Fin 128) (k : Fin dims.startIndexMap.length) :
    dims.siIdx (ix3 l r c) k = ix3 l r 0 := by
  funext b
  match b with
  | ⟨0, _⟩ => exact Fin.ext (siCoord_zero _ (by decide +kernel))
  | ⟨1, _⟩ => exact Fin.ext (siCoord_one _ (by decide +kernel))
  | ⟨2, _⟩ => exact Subsingleton.elim (α := Fin 1) _ _

/-- The reference's lookup at codebook `l`, row `r`, column `c`: the start index there, clamped, names the codebook's row. -/
theorem gather_at {α : Type} (x : S8x1024x128.Idx → α) (v : IVec S8x131072x1 32) (l : Fin 8) (r : Fin 131072) (c : Fin 128) :
    Host.gather dims x v (ix3 l r c) = x (ix3 l ⟨min (v (ix3 l r 0)).toInt.toNat 1023, by omega⟩ c) := by
  refine congrArg x (funext fun a => Fin.ext ?_)
  show dims.start (ix3 l r c) v a + dims.batchCoord (ix3 l r c) a + dims.offCoord (ix3 l r c) a = _
  match a with
  | ⟨0, _⟩ =>
    have hb : (0 : Fin 3) ∈ dims.operandBatchingDims := by decide +kernel
    have e1 : dims.start (ix3 l r c) v 0 = 0 := dims.start_batching _ _ _ hb
    have e2 : dims.batchCoord (ix3 l r c) 0 = l.val := by
      unfold GatherDims.batchCoord
      rw [dif_pos hb]
      exact siCoord_zero _ (by decide +kernel)
    have e3 : dims.offCoord (ix3 l r c) 0 = 0 := dims.offCoord_eq_zero _ _ (by decide +kernel)
    exact (congr (congrArg _ (congr (congrArg _ e1) e2)) e3).trans (by simp)
  | ⟨1, _⟩ =>
    have hs : (1 : Fin 3) ∈ dims.startIndexMap := by decide +kernel
    have e1 : dims.start (ix3 l r c) v 1 = min (v (ix3 l r 0)).toInt.toNat 1023 := by
      unfold GatherDims.start
      rw [dif_pos hs, siIdx_at]
      rfl
    have e2 : dims.batchCoord (ix3 l r c) 1 = 0 := dims.batchCoord_eq_zero _ _ (by decide +kernel)
    have e3 : dims.offCoord (ix3 l r c) 1 = 0 := dims.offCoord_eq_zero _ _ (by decide +kernel)
    exact (congr (congrArg _ (congr (congrArg _ e1) e2)) e3).trans (by simp)
  | ⟨2, _⟩ =>
    have hk : (2 : Fin 3) ∈ dims.sKept := by decide +kernel
    have e1 : dims.start (ix3 l r c) v 2 = 0 := by
      unfold GatherDims.start
      rw [dif_neg (by decide +kernel)]
    have e2 : dims.batchCoord (ix3 l r c) 2 = 0 := dims.batchCoord_eq_zero _ _ (by decide +kernel)
    have e3 : dims.offCoord (ix3 l r c) 2 = c.val := by
      unfold GatherDims.offCoord
      rw [dif_pos hk]
      exact offset_at _ _
    exact (congr (congrArg _ (congr (congrArg _ e1) e2)) e3).trans (by simp)

variable (a : IVec S131072x8 32) (b : FVec Ideal S8x1024x128 .f32)

/-- The words the reference looks up: those of the transposed index array, a negative one moved up by 1024. -/
abbrev looked : IVec S8x131072x1 32 :=
  broadcastInDim S8x131072x1 ![0, 1] bcast_S8x131072_S8x131072x1_0_1
    (select (cmpi .slt (transpose S8x131072 [1, 0] a transposes_S131072x8_S8x131072_1_0) (broadcastInDim S8x131072 ![] bcast_S_S8x131072 (constantI S_ 32 0#32)))
      (addi (transpose S8x131072 [1, 0] a transposes_S131072x8_S8x131072_1_0) (broadcastInDim S8x131072 ![] bcast_S_S8x131072 (constantI S_ 32 1024#32)))
      (transpose S8x131072 [1, 0] a transposes_S131072x8_S8x131072_1_0))

/-- Where the reference keeps what it looked up: the words between 0 and 1023. -/
abbrev kept : IVec S8x131072 1 :=
  Host.reduce IntOp.andi (andi (cmpi .sge (looked a) (broadcastInDim S8x131072x1 ![] bcast_S_S8x131072x1 (constantI S_ 32 0#32)))
    (cmpi .sle (looked a) (broadcastInDim S8x131072x1 ![0, 1, 2] bcast_S1x1x1_S8x131072x1_0_1_2 (broadcastInDim S1x1x1 ![2] bcast_S1_S1x1x1_2 (constantI S1 32 1023#32)))))
    (constantI S_ 1 1#1) reducesTo_S8x131072x1_S8x131072_d2 h_S_

/-- What the reference looked up, a fixed pattern where the word was out of range. -/
abbrev found : FVec Ideal S8x131072x128 .f32 :=
  select (broadcastInDim S8x131072x128 ![0, 1] bcast_S8x131072_S8x131072x128_0_1 (kept a)) (Host.gather dims b (looked a))
    (broadcastInDim S8x131072x128 ![] bcast_S_S8x131072x128 (constant S_ .f32 0x7FC00000#32))

/-- The reference's result. -/
abbrev value : FVec Ideal S131072x128 .f32 :=
  Host.reduceAdd (found a b) (constant S_ .f32 0x00000000#32) reducesTo_S8x131072x128_S131072x128_d0 h_S_

/-- A word below 1024, read signed, is itself. -/
theorem toInt_of_lt {v : BitVec 32} (hv : v.toNat < 1024) : v.toInt = (v.toNat : Int) := by
  rw [BitVec.toInt_eq_toNat_cond, if_pos (by omega)]

variable {a}

theorem looked_at (ha : ∀ y, (a y).toNat < 1024) (l : Fin 8) (r : Fin 131072) (q : Fin 1) : looked a (ix3 l r q) = a (ix2 r l) := by
  have hn : ¬ IntOp.cmpi .slt (a (ix2 r l)) 0#32 = 1#1 := fun e => by
    have := IntOp.cmpi_slt.1 e
    rw [toInt_of_lt (ha _), show (0#32).toInt = 0 by decide] at this
    omega
  pointwise [looked]
  exact if_neg hn

theorem kept_at (ha : ∀ y, (a y).toNat < 1024) (j : S8x131072.Idx) : kept a j = 1#1 := by
  refine Host.reduce_andi_one _ _ _ _ _ rfl fun i => ?_
  have hi := looked_at ha (i 0) (i 1) (i 2)
  rw [ix3_eta] at hi
  refine IntOp.andi_eq_one.2 ⟨IntOp.cmpi_sge.2 ?_, IntOp.cmpi_sle.2 ?_⟩
  · rw [hi, toInt_of_lt (ha _)]
    exact Int.natCast_nonneg _
  · rw [hi, toInt_of_lt (ha _)]
    have := ha (ix2 (i 1) (i 0))
    exact (show ((a (ix2 (i 1) (i 0))).toNat : Int) ≤ 1023 by omega)

/-- A choice made by a mask of ones is the first of the two. -/
theorem keep_at (k : IVec S8x131072 1) (hk : ∀ j, k j = 1#1) (x y : FVec Ideal S8x131072x128 .f32) (j : S8x131072x128.Idx) :
    select (broadcastInDim S8x131072x128 ![0, 1] bcast_S8x131072_S8x131072x128_0_1 k) x y j = x j := by
  refine if_pos ?_
  unfold broadcastInDim
  exact hk _

/-- The sum over the codebooks at row `r`, column `c`. -/
theorem sum_at (x : FVec Ideal S8x131072x128 .f32) (r : Fin 131072) (c : Fin 128) :
    Host.reduceAdd x (constant S_ .f32 0x00000000#32) reducesTo_S8x131072x128_S131072x128_d0 h_S_ (ix2 r c) = ∑ l : Fin 8, x (ix3 l r c) := by
  pointwise

theorem found_at (ha : ∀ y, (a y).toNat < 1024) (l : Fin 8) (r : Fin 131072) (c : Fin 128) :
    found a b (ix3 l r c) = b (ix3 l ⟨(a (ix2 r l)).toNat, ha _⟩ c) := by
  have e : found a b (ix3 l r c) = Host.gather dims b (looked a) (ix3 l r c) := keep_at _ (kept_at ha) _ _ _
  rw [e, gather_at]
  refine congrArg (fun w => b (ix3 l w c)) (Fin.ext ?_)
  show min (looked a (ix3 l r 0)).toInt.toNat 1023 = _
  rw [looked_at ha, toInt_of_lt (ha _)]
  show min ((a (ix2 r l)).toNat : Int).toNat 1023 = (a (ix2 r l)).toNat
  rw [Int.toNat_natCast]
  exact min_eq_left (Nat.le_of_lt_succ (ha _))

/-- The reference at row `r`, column `c`: the sum over the codebooks of the row each word names. -/
theorem value_at (ha : ∀ y, (a y).toNat < 1024) (r : Fin 131072) (c : Fin 128) :
    value a b (ix2 r c) = ∑ l : Fin 8, b (ix3 l ⟨(a (ix2 r l)).toNat, ha _⟩ c) := by
  exact (sum_at _ r c).trans (Finset.sum_congr rfl fun l _ => found_at b ha l r c)

end Cert.RefValue

end
-- ==== Proof.Equation.lean ====
module

public import proofs.«01_k».proof.Proof.Launch
public import proofs.«01_k».proof.Proof.Reference

/-! The kernel's result and the reference's are one array, when every index word is below 1024. -/

@[expose] public section

noncomputable section

namespace Cert.Equation

open Idealize.ShloMosaic
open Cert.KernelIdeal Cert.KernelIdeal.Gen Cert.Values Cert.Launch

variable {F : FTy → Type} [FloatOps F] (m : (ℓ : Loc nD τ sig) → Buf (Elt F) ℓ) (d : Dev nD)

/-- The flat index array at eight times a row plus a codebook. -/
theorem index_at (r : Fin 131072) (l : Fin 8) : Jm m d (8 * r.val + l.val) = m (wLoc d) (ix2 r l) := by
  refine shapeCast_apply (m (wLoc d)) shapeCasts_S131072x8_S1048576 _ (ix2 r l) ?_
  refine (Shape.rowMajor_val_two _).trans ((?_ : _ = _).trans (Shape.rowMajor_val_one _).symm)
  show r.val * 8 + l.val = (8 * r.val + l.val) % 1048576
  omega

/-- The flat table at 1024 times a codebook plus a row. -/
theorem table_at (l : Fin 8) (k : Fin 1024) (c : Fin 128) : Tm m d (k.val + 1024 * l.val) c.val = m (bLoc d) (ix3 l k c) := by
  refine shapeCast_apply (m (bLoc d)) shapeCasts_S8x1024x128_S8192x128 _ (ix3 l k c) ?_
  refine (Shape.rowMajor_val_three _).trans ((?_ : _ = _).trans (Shape.rowMajor_val_two _).symm)
  show (l.val * 1024 + k.val) * 128 + c.val = (k.val + 1024 * l.val) % 8192 * 128 + c.val % 128
  omega

/-- The table row a word names: the word plus 1024 for each codebook before its own, which no word overflows. -/
theorem word_at (hm : PreOK m) (r : Fin 131072) (l : Fin 8) :
    (word (Jm m d) (8 * r.val + l.val)).toNat = (m (wLoc d) (ix2 r l)).toNat + 1024 * l.val := by
  have hw := hm d (ix2 r l)
  have hl := l.isLt
  unfold word
  rw [index_at, show (8 * r.val + l.val) % 8 = l.val by omega, BitVec.toNat_add, BitVec.toNat_ofNat]
  omega

/-- The kernel's result at row `r`, column `c`: left to right over the codebooks, the row each word names. -/
theorem result_at (hm : PreOK m) (r : Fin 131072) (c : Fin 128) :
    result m d (ix2 r c) = sum8 fun l => m (bLoc d) (ix3 l ⟨(m (wLoc d) (ix2 r l)).toNat, hm d _⟩ c) := by
  show sum8 (fun l => Tm m d (word (Jm m d) (8 * r.val + l.val)).toNat c.val) = _
  refine congrArg sum8 (funext fun l => ?_)
  rw [word_at m d hm]
  exact table_at m d l ⟨_, hm d _⟩ c

/-- Eight extended reals added left to right are their sum. -/
theorem sum8_eq (g : Fin 8 → EReal) : sum8 (F := Ideal) g = ∑ l : Fin 8, g l := (Fin.sum_univ_eight g).symm

/-- The kernel's result is the reference's. -/
theorem result_eq (m : (ℓ : Loc nD τ sig) → Buf (Elt Ideal) ℓ) (hm : PreOK m) : result m d = RefValue.value (m (wLoc d)) (m (bLoc d)) := by
  have h : ∀ (r : Fin 131072) (c : Fin 128), result m d (ix2 r c) = RefValue.value (m (wLoc d)) (m (bLoc d)) (ix2 r c) := fun r c =>
    (result_at m d hm r c).trans ((sum8_eq _).trans (RefValue.value_at (m (bLoc d)) (hm d) r c).symm)
  exact funext fun y => (congrArg _ (eq_ix2 y)).trans ((h (y 0) (y 1)).trans (congrArg _ (eq_ix2 y).symm))

end Cert.Equation

end
-- ==== Proof.lean ====
/- The proof of the certificate's claims: the kernel's two frames from its one run, the reference's from its own, and the
   equation of the two results. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.InRange
public import proofs.«01_k».proof.Proof.Equation
public import Idealize.ShloMosaic.Adequacy
public import Idealize.ShloMosaic.Init

@[expose] public section

noncomputable section

namespace Cert.Proof

open Idealize.ShloMosaic Idealize.SL.Sem

/-- The kernel with its real words runs, its arguments unchanged and every counter at zero. -/
theorem frame_kernel : Cert.quiescent_Kernel := fun m ρ hp =>
  (θ_run Cert.KernelIdeal.defs _ _).mono (fun _ h => ⟨fun c => ⟨(h.1 c).1, (h.1 c).2.1⟩, h.2⟩)
    (Launch.run_main (F := Bits) m ρ fun d y => InRange.words _ _ (hp d) y)

/-- The same of the kernel over the extended reals. -/
theorem frame_ideal : Cert.quiescent_KernelIdeal := fun m ρ hp =>
  (θ_run Cert.KernelIdeal.defs _ _).mono (fun _ h => ⟨fun c => ⟨(h.1 c).1, (h.1 c).2.1⟩, h.2⟩)
    (Launch.run_main (F := Ideal) m ρ fun d y => InRange.words _ _ (hp d) y)

/-- The reference runs, its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with the same array, from memories with the same arguments. -/
theorem equal : Cert.algebraic_KernelIdeal_ReferenceIdeal := by
  intro m ρ m' ρ' hp hargs
  have hm : Launch.PreOK m := fun d y => InRange.words _ _ (hp d) y
  refine ⟨fun c => Launch.result m c, ?_, ?_⟩
  · exact (θ_run Cert.KernelIdeal.defs _ _).mono (fun _ h c => ⟨(h.1 c).2.2, (h.1 c).1, (h.1 c).2.1⟩) (Launch.run_main (F := Ideal) m ρ hm)
  · refine (θ_run Cert.ReferenceIdeal.defs _ _).mono (fun _ h c => ⟨(h c).1.trans ?_, (h c).2.1, (h c).2.2⟩)
      (Cert.ReferenceIdeal.Value.run (F := Ideal) m' ρ')
    rw [(hargs c).1, (hargs c).2]
    exact (Equation.result_eq c m hm).symm

theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, equal⟩

end Cert.Proof

end
